-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.blockN ⟨2, ![2048, 1024]⟩ ⟨2, ![4096, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S_ : Shape := ⟨0, ![]⟩

class Facts : Prop where
  bcast_S2048_S2048x1_0 : S2048.BroadcastsInDim S2048x1 (![0] : Fin 1 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  reducesTo_S2048x8_S8_d0 : S2048x8.ReducesTo [0] S8
  h_S_ : 0 < S_.numel
  bcast_S_S2048 : S_.BroadcastsInDim S2048 (![] : Fin 0 → Fin S2048.rank)
  bcast_S_S8 : S_.BroadcastsInDim S8 (![] : Fin 0 → Fin S8.rank)

variable [Facts]

def fn {F : FTy → Type} [FloatOps F] (main_arg0 : FVec F S2048x1024 .f32) (main_arg1 : IVec S2048 32) (main_arg2 : FVec F S4x1024x2048 .f32) (main_arg3 : FVec F S4x2048x1024 .f32) : IVec S2048x8 1 :=
  let main_v0 : IVec S2048x1 32 := broadcastInDim S2048x1 ![0] bcast_S2048_S2048x1_0 main_arg1
  let main_v1 : IVec S8 32 := iotaInDim S8 32 0
  let main_v2 : IVec S1x8 32 := broadcastInDim S1x8 ![1] bcast_S8_S1x8_1 main_v1
  let main_v3 : IVec S2048x8 32 := broadcastInDim S2048x8 ![0, 1] bcast_S2048x1_S2048x8_0_1 main_v0
  let main_v4 : IVec S2048x8 32 := broadcastInDim S2048x8 ![0, 1] bcast_S1x8_S2048x8_0_1 main_v2
  let main_v5 : IVec S2048x8 1 := cmpi .eq main_v3 main_v4
  let main_v6 : IVec S2048x8 32 := (extui 32 · natLt_1_32) main_v5
  let main_c : IVec S_ 32 := constantI S_ 32 0#32
  let main_v7 : IVec S8 32 := (fun x v => Host.reduce IntOp.addi x v reducesTo_S2048x8_S8_d0 h_S_) main_v6 main_c
  let main_c_0 : IVec S_ 32 := constantI S_ 32 0#32
  let main_v8 : IVec S2048 32 := broadcastInDim S2048 ![] bcast_S_S2048 main_c_0
  let main_v9 : IVec S2048 1 := cmpi .sge main_arg1 main_v8
  let main_c_1 : IVec S_ 32 := constantI S_ 32 8#32
  let main_v10 : IVec S2048 32 := broadcastInDim S2048 ![] bcast_S_S2048 main_c_1
  let main_v11 : IVec S2048 1 := cmpi .slt main_arg1 main_v10
  let main_v12 : IVec S2048 1 := andi main_v9 main_v11
  let main_v13 : IVec S2048x1 1 := broadcastInDim S2048x1 ![0] bcast_S2048_S2048x1_0 main_v12
  let main_c_2 : IVec S_ 32 := constantI S_ 32 288#32
  let main_v14 : IVec S8 32 := broadcastInDim S8 ![] bcast_S_S8 main_c_2
  let main_v15 : IVec S8 1 := cmpi .sle main_v7 main_v14
  let main_v16 : IVec S1x8 1 := broadcastInDim S1x8 ![1] bcast_S8_S1x8_1 main_v15
  let main_v17 : IVec S2048x8 1 := broadcastInDim S2048x8 ![0, 1] bcast_S2048x1_S2048x8_0_1 main_v13
  let main_v18 : IVec S2048x8 1 := broadcastInDim S2048x8 ![0, 1] bcast_S1x8_S2048x8_0_1 main_v16
  let main_v19 : IVec S2048x8 1 := andi main_v17 main_v18
  main_v19
-- ==== Pre_routed_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩

class Facts : Prop where
  bcast_S4096_S4096x1_0 : S4096.BroadcastsInDim S4096x1 (![0] : Fin 1 → Fin S4096x1.rank)
  bcast_S8_S1x8_1 : S8.BroadcastsInDim S1x8 (![1] : Fin 1 → Fin S1x8.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  natLt_1_32 : 1 < 32
  reducesTo_S4096x8_S8_d0 : S4096x8.ReducesTo [0] S8
  h_S_ : 0 < S_.numel
  bcast_S_S4096 : S_.BroadcastsInDim S4096 (![] : Fin 0 → Fin S4096.rank)
  bcast_S_S8 : S_.BroadcastsInDim S8 (![] : Fin 0 → Fin S8.rank)

variable [Facts]

def fn {F : FTy → Type} [FloatOps F] (main_arg0 : FVec F S4096x1024 .f32) (main_arg1 : IVec S4096 32) (main_arg2 : FVec F S8x1024x2048 .f32) (main_arg3 : FVec F S8x2048x1024 .f32) : IVec S4096x8 1 :=
  let main_v0 : IVec S4096x1 32 := broadcastInDim S4096x1 ![0] bcast_S4096_S4096x1_0 main_arg1
  let main_v1 : IVec S8 32 := iotaInDim S8 32 0
  let main_v2 : IVec S1x8 32 := broadcastInDim S1x8 ![1] bcast_S8_S1x8_1 main_v1
  let main_v3 : IVec S4096x8 32 := broadcastInDim S4096x8 ![0, 1] bcast_S4096x1_S4096x8_0_1 main_v0
  let main_v4 : IVec S4096x8 32 := broadcastInDim S4096x8 ![0, 1] bcast_S1x8_S4096x8_0_1 main_v2
  let main_v5 : IVec S4096x8 1 := cmpi .eq main_v3 main_v4
  let main_v6 : IVec S4096x8 32 := (extui 32 · natLt_1_32) main_v5
  let main_c : IVec S_ 32 := constantI S_ 32 0#32
  let main_v7 : IVec S8 32 := (fun x v => Host.reduce IntOp.addi x v reducesTo_S4096x8_S8_d0 h_S_) main_v6 main_c
  let main_c_0 : IVec S_ 32 := constantI S_ 32 0#32
  let main_v8 : IVec S4096 32 := broadcastInDim S4096 ![] bcast_S_S4096 main_c_0
  let main_v9 : IVec S4096 1 := cmpi .sge main_arg1 main_v8
  let main_c_1 : IVec S_ 32 := constantI S_ 32 8#32
  let main_v10 : IVec S4096 32 := broadcastInDim S4096 ![] bcast_S_S4096 main_c_1
  let main_v11 : IVec S4096 1 := cmpi .slt main_arg1 main_v10
  let main_v12 : IVec S4096 1 := andi main_v9 main_v11
  let main_v13 : IVec S4096x1 1 := broadcastInDim S4096x1 ![0] bcast_S4096_S4096x1_0 main_v12
  let main_c_2 : IVec S_ 32 := constantI S_ 32 288#32
  let main_v14 : IVec S8 32 := broadcastInDim S8 ![] bcast_S_S8 main_c_2
  let main_v15 : IVec S8 1 := cmpi .sle main_v7 main_v14
  let main_v16 : IVec S1x8 1 := broadcastInDim S1x8 ![1] bcast_S8_S1x8_1 main_v15
  let main_v17 : IVec S4096x8 1 := broadcastInDim S4096x8 ![0, 1] bcast_S4096x1_S4096x8_0_1 main_v13
  let main_v18 : IVec S4096x8 1 := broadcastInDim S4096x8 ![0, 1] bcast_S1x8_S4096x8_0_1 main_v16
  let main_v19 : IVec S4096x8 1 := andi main_v17 main_v18
  main_v19
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S4x288x1024 : Shape := ⟨3, ![4, 288, 1024]⟩
abbrev S2304x1024 : Shape := ⟨2, ![2304, 1024]⟩
abbrev S1152x1024 : Shape := ⟨2, ![1152, 1024]⟩
abbrev S2x1024x2048 : Shape := ⟨3, ![2, 1024, 2048]⟩
abbrev S2x2048x1024 : Shape := ⟨3, ![2, 2048, 1024]⟩
abbrev S2 : Shape := ⟨1, ![2]⟩
abbrev S4 : Shape := ⟨1, ![4]⟩
abbrev S1 : Shape := ⟨1, ![1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S288x2048 : Shape := ⟨2, ![288, 2048]⟩
abbrev S1x2048 : Shape := ⟨2, ![1, 2048]⟩
abbrev S288x1024 : Shape := ⟨2, ![288, 1024]⟩
abbrev S1x288x1024 : Shape := ⟨3, ![1, 288, 1024]⟩
abbrev S256 : Shape := ⟨1, ![256]⟩
abbrev S256x1152 : Shape := ⟨2, ![256, 1152]⟩
abbrev S256x1 : Shape := ⟨2, ![256, 1]⟩
abbrev S256x1024 : Shape := ⟨2, ![256, 1024]⟩
abbrev S256x576 : Shape := ⟨2, ![256, 576]⟩
abbrev S576x1024 : Shape := ⟨2, ![576, 1024]⟩

abbrev nBuf : Space → Nat
  | .hbm => 57
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S_, .i1⟩
  | .hbm, ⟨33, _⟩ => ⟨S2048, .i1⟩
  | .hbm, ⟨34, _⟩ => ⟨S2048, .i1⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S1x8, .i32⟩
  | .hbm, ⟨41, _⟩ => ⟨S2048x8, .i32⟩
  | .hbm, ⟨42, _⟩ => ⟨S2048x8, .i32⟩
  | .hbm, ⟨43, _⟩ => ⟨S2048x8, .i1⟩
  | .hbm, ⟨44, _⟩ => ⟨S2048x8, .i32⟩
  | .hbm, ⟨45, _⟩ => ⟨S_, .i32⟩
  | .hbm, ⟨46, _⟩ => ⟨S_, .i32⟩
  | .hbm, ⟨47, _⟩ => ⟨S2048x8, .i32⟩
  | .hbm, ⟨48, _⟩ => ⟨S2048x8, .i32⟩
  | .hbm, ⟨49, _⟩ => ⟨S2048x8, .i32⟩
  | .hbm, ⟨50, _⟩ => ⟨S_, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1024, .f32⟩
  | .local _ .vmem, ⟨0, _⟩ => ⟨S2048x1024, .f32⟩
  | .local _ .vmem, ⟨1, _⟩ => ⟨S2048, .i32⟩
  | .local _ .vmem, ⟨2, _⟩ => ⟨S2048x1024, .f32⟩
  | .local _ .vmem, ⟨3, _⟩ => ⟨S4x288x1024, .bf16⟩
  | .local _ .vmem, ⟨4, _⟩ => ⟨S4x288x1024, .bf16⟩
  | .local _ .vmem, ⟨5, _⟩ => ⟨S2304x1024, .bf16⟩
  | .local _ .vmem, ⟨6, _⟩ => ⟨S1152x1024, .bf16⟩
  | .local _ .vmem, ⟨7, _⟩ => ⟨S2x1024x2048, .f32⟩
  | .local _ .vmem, ⟨8, _⟩ => ⟨S2x2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v10 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v11 : Ref sig .tc := ⟨.hbm, 44, rfl⟩
abbrev main_call2_call0_c : Ref sig .tc := ⟨.hbm, 45, rfl⟩
abbrev main_call2_call0_v0 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_4 : Ref sig .tc := ⟨.hbm, 50, rfl⟩
abbrev main_v15 : Ref sig .tc := ⟨.hbm, 51, rfl⟩
abbrev main_c_5 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v20 : BitVec 32 := Scalar.muli v6 c2_i32_17
  let v21 : BitVec 32 := Scalar.addi c0_i32_18 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v22 : BitVec 32 := Scalar.muli v5 c1_i32_19
  let v23 : BitVec 32 := Scalar.addi v21 v22
  v23.toNat
def k0_dev2 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v41 : BitVec 32 := Scalar.muli v6 c2_i32_30
  let v42 : BitVec 32 := Scalar.addi c0_i32_31 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v43 : BitVec 32 := Scalar.muli v5 c1_i32_32
  let v44 : BitVec 32 := Scalar.addi v42 v43
  v44.toNat
def k0_dev3 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v70 : BitVec 32 := Scalar.muli v6 c2_i32_47
  let v71 : BitVec 32 := Scalar.addi c0_i32_48 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v72 : BitVec 32 := Scalar.muli v5 c1_i32_49
  let v73 : BitVec 32 := Scalar.addi v71 v72
  v73.toNat
def k0_dev4 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v99 : BitVec 32 := Scalar.muli v6 c2_i32_64
  let v100 : BitVec 32 := Scalar.addi c0_i32_65 v99
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v101 : BitVec 32 := Scalar.muli v5 c1_i32_66
  let v102 : BitVec 32 := Scalar.addi v100 v101
  v102.toNat
def k0_dev5 (d0 : Dev nD) : Nat :=
  let c0_i32_81 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_80 : BitVec 32 := 2#32
  let v128 : BitVec 32 := Scalar.muli v6 c2_i32_80
  let v129 : BitVec 32 := Scalar.addi c0_i32_81 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_82 : BitVec 32 := 1#32
  let v130 : BitVec 32 := Scalar.muli v5 c1_i32_82
  let v131 : BitVec 32 := Scalar.addi v129 v130
  v131.toNat
def k0_dev6 (d0 : Dev nD) : Nat :=
  let c0_i32_168 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_167 : BitVec 32 := 2#32
  let v220 : BitVec 32 := Scalar.muli v6 c2_i32_167
  let v221 : BitVec 32 := Scalar.addi c0_i32_168 v220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_169 : BitVec 32 := 1#32
  let v222 : BitVec 32 := Scalar.muli v5 c1_i32_169
  let v223 : BitVec 32 := Scalar.addi v221 v222
  v223.toNat
def k0_dev7 (d0 : Dev nD) : Nat :=
  let c0_i32_253 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_252 : BitVec 32 := 2#32
  let v310 : BitVec 32 := Scalar.muli v6 c2_i32_252
  let v311 : BitVec 32 := Scalar.addi c0_i32_253 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v312 : BitVec 32 := Scalar.muli v5 c1_i32_254
  let v313 : BitVec 32 := Scalar.addi v311 v312
  v313.toNat
def k0_dev8 (d0 : Dev nD) : Nat :=
  let c0_i32_338 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_337 : BitVec 32 := 2#32
  let v400 : BitVec 32 := Scalar.muli v6 c2_i32_337
  let v401 : BitVec 32 := Scalar.addi c0_i32_338 v400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_339 : BitVec 32 := 1#32
  let v402 : BitVec 32 := Scalar.muli v5 c1_i32_339
  let v403 : BitVec 32 := Scalar.addi v401 v402
  v403.toNat
def k0_dev9 (d0 : Dev nD) : Nat :=
  let c0_i32_409 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_408 : BitVec 32 := 2#32
  let v478 : BitVec 32 := Scalar.muli v6 c2_i32_408
  let v479 : BitVec 32 := Scalar.addi c0_i32_409 v478
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_410 : BitVec 32 := 1#32
  let v480 : BitVec 32 := Scalar.muli v5 c1_i32_410
  let v481 : BitVec 32 := Scalar.addi v479 v480
  v481.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S1x1024x2048, .f32⟩
  | .hbm, ⟨10, _⟩ => ⟨S1024x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x1, .i1⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S1x1024x2048, .f32⟩
  | .hbm, ⟨25, _⟩ => ⟨S1024x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x1, .i1⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S1x1024x2048, .f32⟩
  | .hbm, ⟨40, _⟩ => ⟨S1024x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x1, .i1⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S1x1024x2048, .f32⟩
  | .hbm, ⟨55, _⟩ => ⟨S1024x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x1, .i1⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S1x1024x2048, .f32⟩
  | .hbm, ⟨70, _⟩ => ⟨S1024x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x1, .i1⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S1x1024x2048, .f32⟩
  | .hbm, ⟨85, _⟩ => ⟨S1024x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S4096x1, .i1⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S1x1024x2048, .f32⟩
  | .hbm, ⟨100, _⟩ => ⟨S1024x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S4096x1, .i1⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S_, .i32⟩
  | .hbm, ⟨112, _⟩ => ⟨S4096, .i32⟩
  | .hbm, ⟨113, _⟩ => ⟨S4096, .i1⟩
  | .hbm, ⟨114, _⟩ => ⟨S1x1024x2048, .f32⟩
  | .hbm, ⟨115, _⟩ => ⟨S1024x2048, .f32⟩
  | .hbm, ⟨116, _⟩ => ⟨S4096x2048, .f32⟩
  | .hbm, ⟨117, _⟩ => ⟨S_, .f32⟩
  | .hbm, ⟨118, _⟩ => ⟨S4096x2048, .f32⟩
  | .hbm, ⟨119, _⟩ => ⟨S4096x2048, .f32⟩
  | .hbm, ⟨120, _⟩ => ⟨S4096x1, .i1⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Vals.lean ====
/-
# What every buffer of the layer holds, as functions of the devices' arguments

The kernel moves blocks between buffers of several shapes. This module names the blocks (rectangles of the
buffers), the vectors the kernel computes from what it loads, and, per device, one contents function for
each buffer such that reading a block of it gives the vector the kernel put there.
-/
module

public import proofs.«01_k».proof.Proof.Gen.KernelIdeal
public import proofs.«01_k».proof.Proof.Gen.KernelIdeal.Skeleton
public import Idealize.ShloMosaic.Lib.Tactic

@[expose] public section

noncomputable section

namespace Cert.Moe

open Cert.KernelIdeal Cert.KernelIdeal.Gen
open Idealize.ShloMosaic

variable {F : FTy → Type} [FloatOps F]

/-! ## The partner -/

/-- Device `c = 2 x + y` of the mesh exchanges tokens with `2 (1 - x) + y`. -/
def pr (c : Dev nD) : Dev nD := ⟨(c.val + 2) % 4, Nat.mod_lt _ (by decide)⟩

theorem pr_pr (c : Dev nD) : pr (pr c) = c := by revert c; decide
theorem pr_ne (c : Dev nD) : pr c ≠ c := by revert c; decide

/-- The exchange as a permutation of the devices. -/
def prE : Dev nD ≃ Dev nD := ⟨pr, pr, pr_pr, pr_pr⟩

theorem dev1_eq (c : Dev nD) : (⟨k0_dev1 c, k0_dev1_lt c⟩ : Dev nD) = pr c := by revert c; decide
theorem dev2_eq (c : Dev nD) : (⟨k0_dev2 c, k0_dev2_lt c⟩ : Dev nD) = pr c := by revert c; decide
theorem dev3_eq (c : Dev nD) : (⟨k0_dev3 c, k0_dev3_lt c⟩ : Dev nD) = pr c := by revert c; decide
theorem dev4_eq (c : Dev nD) : (⟨k0_dev4 c, k0_dev4_lt c⟩ : Dev nD) = pr c := by revert c; decide
theorem dev5_eq (c : Dev nD) : (⟨k0_dev5 c, k0_dev5_lt c⟩ : Dev nD) = pr c := by revert c; decide
theorem dev6_eq (c : Dev nD) : (⟨k0_dev6 c, k0_dev6_lt c⟩ : Dev nD) = pr c := by revert c; decide
theorem dev7_eq (c : Dev nD) : (⟨k0_dev7 c, k0_dev7_lt c⟩ : Dev nD) = pr c := by revert c; decide
theorem dev8_eq (c : Dev nD) : (⟨k0_dev8 c, k0_dev8_lt c⟩ : Dev nD) = pr c := by revert c; decide
theorem dev9_eq (c : Dev nD) : (⟨k0_dev9 c, k0_dev9_lt c⟩ : Dev nD) = pr c := by revert c; decide

/-! ## The buffers and their blocks -/

abbrev xM : Memref sig .tc .vmem S2048x1024 .f32 := Memref.whole cc0_stg0_0
abbrev kM : Memref sig .tc .vmem S2048 .i32 := Memref.whole cc0_stg1_0
abbrev oM : Memref sig .tc .vmem S2048x1024 .f32 := Memref.whole cc0_stg2_0
abbrev AM : Memref sig .tc .hbm S4x1024x2048 .f32 := Memref.whole main_arg2
abbrev BM : Memref sig .tc .hbm S4x2048x1024 .f32 := Memref.whole main_arg3
abbrev sM : Memref sig .tc .vmem S4x288x1024 .bf16 := Memref.whole cc0_scratch0
abbrev rM : Memref sig .tc .vmem S4x288x1024 .bf16 := Memref.whole cc0_scratch1
abbrev fM : Memref sig .tc .vmem S2304x1024 .bf16 := Memref.whole cc0_scratch2
abbrev tM : Memref sig .tc .vmem S1152x1024 .bf16 := Memref.whole cc0_scratch3
abbrev aM : Memref sig .tc .vmem S2x1024x2048 .f32 := Memref.whole cc0_scratch4
abbrev bM : Memref sig .tc .vmem S2x2048x1024 .f32 := Memref.whole cc0_scratch5

/-- The expert in weight slot `s` at its use `r`. -/
abbrev ex (r s : Fin 2) : Fin 4 := ⟨2 * r.val + s.val, by omega⟩
/-- The partner's expert `e` among all eight of a device's buckets. -/
abbrev far (e : Fin 4) : Fin 8 := ⟨e.val + 4, by omega⟩

/-- Bucket `e` of a four-bucket buffer. -/
abbrev slotR (e : Fin 4) : Rect S4x288x1024 :=
  Rect.unit (s := S4x288x1024) ![e.val, 0, 0] S1x288x1024.size
    (fun a => by fin_cases a <;> simp [S1x288x1024, S4x288x1024] <;> omega)
/-- Rows `288 k ..` of the flat buffer. -/
abbrev flatR (k : Fin 8) : Rect S2304x1024 :=
  Rect.unit (s := S2304x1024) ![288 * k.val, 0] S288x1024.size
    (fun a => by fin_cases a <;> simp [S288x1024, S2304x1024] <;> omega)
/-- Rows `288 e ..` of the buffer of rows sent back. -/
abbrev backR (e : Fin 4) : Rect S1152x1024 :=
  Rect.unit (s := S1152x1024) ![288 * e.val, 0] S288x1024.size
    (fun a => by fin_cases a <;> simp [S288x1024, S1152x1024] <;> omega)
/-- Slot `s` of the first weights' two slots. -/
abbrev aR (s : Fin 2) : Rect S2x1024x2048 :=
  Rect.unit (s := S2x1024x2048) ![s.val, 0, 0] S1x1024x2048.size
    (fun a => by fin_cases a <;> simp [S1x1024x2048, S2x1024x2048] <;> omega)
/-- Slot `s` of the second weights' two slots. -/
abbrev bR (s : Fin 2) : Rect S2x2048x1024 :=
  Rect.unit (s := S2x2048x1024) ![s.val, 0, 0] S1x2048x1024.size
    (fun a => by fin_cases a <;> simp [S1x2048x1024, S2x2048x1024] <;> omega)
/-- Expert `e`'s first weights. -/
abbrev AR (e : Fin 4) : Rect S4x1024x2048 :=
  Rect.unit (s := S4x1024x2048) ![e.val, 0, 0] S1x1024x2048.size
    (fun a => by fin_cases a <;> simp [S1x1024x2048, S4x1024x2048] <;> omega)
/-- Expert `e`'s second weights. -/
abbrev BR (e : Fin 4) : Rect S4x2048x1024 :=
  Rect.unit (s := S4x2048x1024) ![e.val, 0, 0] S1x2048x1024.size
    (fun a => by fin_cases a <;> simp [S1x2048x1024, S4x2048x1024] <;> omega)
/-- Tokens `256 j ..` of the result. -/
abbrev outR (j : Fin 8) : Rect S2048x1024 :=
  Rect.unit (s := S2048x1024) ![256 * j.val, 0] S256x1024.size
    (fun a => by fin_cases a <;> simp [S256x1024, S2048x1024] <;> omega)
/-- Tokens `256 j ..` of the keys. -/
abbrev keyR (j : Fin 8) : Rect S2048 :=
  Rect.unit (s := S2048) ![256 * j.val] S256.size
    (fun a => by fin_cases a; simp [S256, S2048]; omega)

/-- The rows of the flat buffer the device computes itself. -/
abbrev lowR : Rect S2304x1024 := Rect.unit (s := S2304x1024) ![0, 0] S1152x1024.size inb_S2304x1024_S1152x1024_0_0
/-- The rows of the partner's first two experts, -/
abbrev midR : Rect S2304x1024 := Rect.unit (s := S2304x1024) ![1152, 0] S576x1024.size inb_S2304x1024_S576x1024_1152_0
/-- and of its last two. -/
abbrev topR : Rect S2304x1024 := Rect.unit (s := S2304x1024) ![1728, 0] S576x1024.size inb_S2304x1024_S576x1024_1728_0

/-! ## Assembling contents from blocks -/

section Assemble
variable {α : Type}

/-- Layers stacked along a leading axis. -/
def stackOf {n a b : ℕ} (g : Fin n → (⟨3, ![1, a, b]⟩ : Shape).Idx → α) : (⟨3, ![n, a, b]⟩ : Shape).Idx → α :=
  fun i => g (i 0) (fun d => match d with
    | ⟨0, _⟩ => (0 : Fin 1)
    | ⟨1, _⟩ => i 1
    | ⟨2, _⟩ => i 2)

theorem stackOf_apply {n a b : ℕ} (g : Fin n → (⟨3, ![1, a, b]⟩ : Shape).Idx → α) (e : Fin n)
    (i : (⟨3, ![n, a, b]⟩ : Shape).Idx) (y : (⟨3, ![1, a, b]⟩ : Shape).Idx)
    (h0 : (i 0).val = e.val) (h1 : (i 1).val = (y 1).val) (h2 : (i 2).val = (y 2).val) : stackOf g i = g e y := by
  have he : i 0 = e := Fin.ext h0
  unfold stackOf
  rw [he]
  congr 1
  funext d
  match d with
  | ⟨0, _⟩ => exact (Subsingleton.elim (α := Fin 1) _ _)
  | ⟨1, _⟩ => exact Fin.ext h1
  | ⟨2, _⟩ => exact Fin.ext h2

/-- Blocks of `a` rows one after the other. -/
def rowsOf {N n a b : ℕ} (hN : N = a * n) (g : Fin n → (⟨2, ![a, b]⟩ : Shape).Idx → α) : (⟨2, ![N, b]⟩ : Shape).Idx → α :=
  fun i => g ⟨(i 0).val / a, Nat.div_lt_of_lt_mul (by have h : (i 0).val < N := (i 0).isLt; omega)⟩ (fun d => match d with
    | ⟨0, _⟩ => (⟨(i 0).val % a, Nat.mod_lt _ (Nat.pos_of_ne_zero fun h => by
        have h : (i 0).val < N := (i 0).isLt; subst hN; simp_all)⟩ : Fin a)
    | ⟨1, _⟩ => i 1)

theorem rowsOf_apply {N n a b : ℕ} (hN : N = a * n) (g : Fin n → (⟨2, ![a, b]⟩ : Shape).Idx → α) (k : Fin n)
    (i : (⟨2, ![N, b]⟩ : Shape).Idx) (y : (⟨2, ![a, b]⟩ : Shape).Idx)
    (h0 : (i 0).val = a * k.val + (y 0).val) (h1 : (i 1).val = (y 1).val) : rowsOf hN g i = g k y := by
  have hy : (y 0).val < a := (y 0).isLt
  have ha : 0 < a := by omega
  have hk : (⟨(i 0).val / a, Nat.div_lt_of_lt_mul (by have h : (i 0).val < N := (i 0).isLt; omega)⟩ : Fin n) = k :=
    Fin.ext (by
      show (i 0).val / a = k.val
      rw [h0, Nat.mul_add_div ha, Nat.div_eq_of_lt hy, Nat.add_zero])
  unfold rowsOf
  rw [hk]
  congr 1
  funext d
  match d with
  | ⟨0, _⟩ => exact Fin.ext (by
      show (i 0).val % a = (y 0).val
      rw [h0, Nat.mul_add_mod, Nat.mod_eq_of_lt hy])
  | ⟨1, _⟩ => exact Fin.ext h1

end Assemble

/-! ## The vectors the kernel computes -/

/-- The rows with key `o ..` of the tokens: a product with the one-hot matrix of the keys. -/
def gatP (o : BitVec 32) (k : Vec F S2048 .i32) (x : Vec F S2048x1024 .f32) : FVec F S288x1024 .f32 :=
  matmul dot_S288x2048_S2048x1024_S288x1024_1_0_0_1_n_n none
    (sitofp .f32 (extui 32 (cmpi .eq (iota .tc S288x2048 32 [0] iota_S288x2048_d0_w32)
      (broadcastTo S288x2048 (shapeCast S1x2048 (subi (shapeCast S2048 k shapeCasts_S2048_S2048) (broadcast S2048 o))
        shapeCasts_S2048_S1x2048) broadcasts_S1x2048_S288x2048)) natLt_1_32))
    (shapeCast S2048x1024 x shapeCasts_S2048x1024_S2048x1024) (constant S288x1024 .f32 0x00000000#32)

/-- The bucket sent for keys `o ..`. -/
def sendP (o : BitVec 32) (k : Vec F S2048 .i32) (x : Vec F S2048x1024 .f32) : FVec F S1x288x1024 .bf16 :=
  shapeCast S1x288x1024 (truncf .bf16 (gatP o k x) bitsLt_bf16_f32) shapeCasts_S288x1024_S1x288x1024

/-- One expert's layer on 288 rows. -/
def ffnP (g : FVec F S288x1024 .f32) (a : Vec F S1x1024x2048 .f32) (b : Vec F S1x2048x1024 .f32) : FVec F S288x1024 .bf16 :=
  shapeCast S288x1024 (truncf .bf16 (matmul dot_S288x2048_S2048x1024_S288x1024_1_0_0_1_n_n none
    (maximumf (matmul dot_S288x1024_S1024x2048_S288x2048_1_0_0_1_n_n none g
        (shapeCast S1024x2048 a shapeCasts_S1x1024x2048_S1024x2048) (constant S288x2048 .f32 0x00000000#32))
      (broadcast S288x2048 (Scalar.ofBits .f32 0x00000000#32 : F .f32)))
    (shapeCast S2048x1024 b shapeCasts_S1x2048x1024_S2048x1024) (constant S288x1024 .f32 0x00000000#32)) bitsLt_bf16_f32)
    shapeCasts_S288x1024_S288x1024

/-- The layer on the device's own rows. -/
def ownP (o : BitVec 32) (k : Vec F S2048 .i32) (x : Vec F S2048x1024 .f32) (a : Vec F S1x1024x2048 .f32)
    (b : Vec F S1x2048x1024 .f32) : FVec F S288x1024 .bf16 := ffnP (gatP o k x) a b

/-- The layer on a bucket received. -/
def remP (r : Vec F S1x288x1024 .bf16) (a : Vec F S1x1024x2048 .f32) (b : Vec F S1x2048x1024 .f32) : FVec F S288x1024 .bf16 :=
  ffnP (extf .f32 (shapeCast S288x1024 r shapeCasts_S1x288x1024_S288x1024) bitsLt_bf16_f32) a b

/-- The first pass of the combination: the rows a chunk of tokens finds among the device's own rows. -/
def com0P (k : Vec F S256 .i32) (f : Vec F S1152x1024 .bf16) : FVec F S256x1024 .f32 :=
  matmul dot_S256x1152_S1152x1024_S256x1024_1_0_0_1_n_n none
    (truncf .bf16 (sitofp .f32 (extui 32 (cmpi .eq (iota .tc S256x1152 32 [1] iota_S256x1152_d1_w32)
      (broadcastTo S256x1152 (shapeCast S256x1 (subi (shapeCast S256 k shapeCasts_S256_S256) (broadcast S256 0#32))
        shapeCasts_S256_S256x1) broadcasts_S256x1_S256x1152)) natLt_1_32)) bitsLt_bf16_f32)
    f (constant S256x1024 .f32 0x00000000#32)

/-- A later pass: the rows it finds among 576 rows from key `o`, added to what it had. -/
def comP (o : BitVec 32) (k : Vec F S256 .i32) (f : Vec F S576x1024 .bf16) (p : Vec F S256x1024 .f32) : FVec F S256x1024 .f32 :=
  addf (shapeCast S256x1024 p shapeCasts_S256x1024_S256x1024)
    (matmul dot_S256x576_S576x1024_S256x1024_1_0_0_1_n_n none
      (truncf .bf16 (sitofp .f32 (extui 32 (cmpi .eq (iota .tc S256x576 32 [1] iota_S256x576_d1_w32)
        (broadcastTo S256x576 (shapeCast S256x1 (subi (shapeCast S256 k shapeCasts_S256_S256) (broadcast S256 o))
          shapeCasts_S256_S256x1) broadcasts_S256x1_S256x576)) natLt_1_32)) bitsLt_bf16_f32)
      f (constant S256x1024 .f32 0x00000000#32))

/-- The first key of the device's own expert `e`, -/
def oOwn (e : Fin 4) : BitVec 32 := BitVec.ofNat 32 (288 * e.val)
/-- and of the partner's. -/
def oFar (e : Fin 4) : BitVec 32 := BitVec.ofNat 32 (1152 + 288 * e.val)

/-! ## What every buffer holds -/

/-- The devices' arguments to the kernel: tokens, keys, and the two layers' weights. -/
structure Args (F : FTy → Type) where
  x : Dev nD → Vec F S2048x1024 .f32
  k : Dev nD → Vec F S2048 .i32
  A : Dev nD → Vec F S4x1024x2048 .f32
  B : Dev nD → Vec F S4x2048x1024 .f32

namespace Args
variable (g : Args F) (c : Dev nD)

/-- Expert `e`'s first weights, as read out of the weights' buffer, -/
def a (e : Fin 4) : Vec F S1x1024x2048 .f32 := (AM.access (AR e)).read (Elt F) (g.A c)
/-- and its second. -/
def b (e : Fin 4) : Vec F S1x2048x1024 .f32 := (BM.access (BR e)).read (Elt F) (g.B c)

/-- The bucket the device sends for its partner's expert `e`. -/
def snd (e : Fin 4) : Vec F S1x288x1024 .bf16 := sendP (oFar e) (g.k c) (g.x c)
/-- The device's own rows for its expert `e`. -/
def own (e : Fin 4) : Vec F S288x1024 .bf16 := ownP (oOwn e) (g.k c) (g.x c) (g.a c e) (g.b c e)
/-- The rows it computes for its partner. -/
def rem (e : Fin 4) : Vec F S288x1024 .bf16 := remP (g.snd (pr c) e) (g.a c e) (g.b c e)

def sendC : Vec F S4x288x1024 .bf16 := stackOf fun e => g.snd c e
def recvC : Vec F S4x288x1024 .bf16 := stackOf fun e => g.snd (pr c) e
def backC : Vec F S1152x1024 .bf16 := rowsOf (n := 4) (a := 288) (by decide) fun e => g.rem c e
/-- Expert `k`'s rows for the device's tokens: its own experts', then its partner's. -/
def rows (k : Fin 8) : Vec F S288x1024 .bf16 :=
  if h : k.val < 4 then g.own c ⟨k.val, h⟩ else g.rem (pr c) ⟨k.val - 4, by omega⟩
def flatC : Vec F S2304x1024 .bf16 := rowsOf (n := 8) (a := 288) (by decide) fun k => g.rows c k
/-- The first weights' slots in use `r`: experts `2 r` and `2 r + 1`. -/
def aC (r : Fin 2) : Vec F S2x1024x2048 .f32 := stackOf fun s => g.a c (ex r s)
def bC (r : Fin 2) : Vec F S2x2048x1024 .f32 := stackOf fun s => g.b c (ex r s)

/-- The keys of a chunk of tokens. -/
def kc (j : Fin 8) : Vec F S256 .i32 := (kM.access (keyR j)).read (Elt F) (g.k c)
def low : Vec F S1152x1024 .bf16 := (fM.access lowR).read (Elt F) (g.flatC c)
def mid : Vec F S576x1024 .bf16 := (fM.access midR).read (Elt F) (g.flatC c)
def top : Vec F S576x1024 .bf16 := (fM.access topR).read (Elt F) (g.flatC c)

/-- A chunk of the result after each of the three passes. -/
def o1 (j : Fin 8) : Vec F S256x1024 .f32 := com0P (g.kc c j) (g.low c)
def o2 (j : Fin 8) : Vec F S256x1024 .f32 := comP 1152#32 (g.kc c j) (g.mid c) (g.o1 c j)
def o3 (j : Fin 8) : Vec F S256x1024 .f32 := comP 1728#32 (g.kc c j) (g.top c) (g.o2 c j)
def out1 : Vec F S2048x1024 .f32 := rowsOf (n := 8) (a := 256) (by decide) fun j => g.o1 c j
def out2 : Vec F S2048x1024 .f32 := rowsOf (n := 8) (a := 256) (by decide) fun j => g.o2 c j
def out3 : Vec F S2048x1024 .f32 := rowsOf (n := 8) (a := 256) (by decide) fun j => g.o3 c j

/-! ### Reading a block back -/

theorem read_sendC (e : Fin 4) : (sM.access (slotR e)).read (Elt F) (g.sendC c) = g.snd c e := by
  funext y
  show stackOf (fun e => g.snd c e) ((slotR e).emb y) = _
  have hy : (y 0).val < 1 := (y 0).isLt
  exact stackOf_apply _ e _ y (by show e.val + 1 * (y 0).val = _; omega) (by show 0 + 1 * (y 1).val = _; omega) (by show 0 + 1 * (y 2).val = _; omega)

theorem read_recvC (e : Fin 4) : (rM.access (slotR e)).read (Elt F) (g.recvC c) = g.snd (pr c) e := by
  funext y
  show stackOf (fun e => g.snd (pr c) e) ((slotR e).emb y) = _
  have hy : (y 0).val < 1 := (y 0).isLt
  exact stackOf_apply _ e _ y (by show e.val + 1 * (y 0).val = _; omega) (by show 0 + 1 * (y 1).val = _; omega) (by show 0 + 1 * (y 2).val = _; omega)

theorem read_aC (r s : Fin 2) : (aM.access (aR s)).read (Elt F) (g.aC c r) = g.a c (ex r s) := by
  funext y
  show stackOf (fun s : Fin 2 => g.a c (ex r s)) ((aR s).emb y) = _
  have hy : (y 0).val < 1 := (y 0).isLt
  exact stackOf_apply _ s _ y (by show s.val + 1 * (y 0).val = _; omega) (by show 0 + 1 * (y 1).val = _; omega) (by show 0 + 1 * (y 2).val = _; omega)

theorem read_bC (r s : Fin 2) : (bM.access (bR s)).read (Elt F) (g.bC c r) = g.b c (ex r s) := by
  funext y
  show stackOf (fun s : Fin 2 => g.b c (ex r s)) ((bR s).emb y) = _
  have hy : (y 0).val < 1 := (y 0).isLt
  exact stackOf_apply _ s _ y (by show s.val + 1 * (y 0).val = _; omega) (by show 0 + 1 * (y 1).val = _; omega) (by show 0 + 1 * (y 2).val = _; omega)

theorem read_backC (e : Fin 4) : (tM.access (backR e)).read (Elt F) (g.backC c) = g.rem c e := by
  funext y
  show rowsOf (n := 4) (a := 288) (by decide) (fun e => g.rem c e) ((backR e).emb y) = _
  exact rowsOf_apply _ _ e _ y (by show 288 * e.val + 1 * (y 0).val = _; omega) (by show 0 + 1 * (y 1).val = _; omega)

theorem read_flatC (k : Fin 8) : (fM.access (flatR k)).read (Elt F) (g.flatC c) = g.rows c k := by
  funext y
  show rowsOf (n := 8) (a := 288) (by decide) (fun k => g.rows c k) ((flatR k).emb y) = _
  exact rowsOf_apply _ _ k _ y (by show 288 * k.val + 1 * (y 0).val = _; omega) (by show 0 + 1 * (y 1).val = _; omega)

theorem read_out (o : Fin 8 → Vec F S256x1024 .f32) (j : Fin 8) :
    (oM.access (outR j)).read (Elt F) (rowsOf (n := 8) (a := 256) (by decide) o : Vec F S2048x1024 .f32) = o j := by
  funext y
  show rowsOf (n := 8) (a := 256) (by decide) o ((outR j).emb y) = _
  exact rowsOf_apply _ _ j _ y (by show 256 * j.val + 1 * (y 0).val = _; omega) (by show 0 + 1 * (y 1).val = _; omega)

theorem rows_own (e : Fin 4) : g.rows c ⟨e.val, by omega⟩ = g.own c e := by
  unfold rows; rw [dif_pos (show e.val < 4 from e.isLt)]
theorem rows_far (e : Fin 4) : g.rows c (far e) = g.rem (pr c) e := by
  unfold rows; rw [dif_neg (show ¬ e.val + 4 < 4 by omega)]; congr 1

end Args

end Cert.Moe

end
-- ==== Proof.Sched.lean ====
/-
# The protocol of the exchange

Every device has one barrier cell and twenty transfer cells: two weight slots for each layer, and for each of
four experts a sent and a received bucket on the way out and a sent and a received block of rows on the way
back. This module lists what each cell hands to its owner, what a device owes its partner at launch, and the
levels by which a device may wait while it still owes.
-/
module

public import proofs.«01_k».proof.Proof.Vals
public import Idealize.ShloMosaic.Lib.Rounds
public import Idealize.ShloMosaic.Lib.Pipeline.Launch
public import Idealize.ShloMosaic.Lib.Pipeline.Kit

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the round bookkeeping for the launch's own transfers, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

/-- The semaphore of the `k`-th cell: the barrier, then the transfer semaphores in order. -/
def osem (k : Fin 21) : SemLoc sig := if k.val = 0 then .reg barrier0 else .dma ⟨k.val + 2, by have := k.isLt; show _ < 23; omega⟩

/-- Which cell a semaphore is, if it is one of ours. -/
def tagOf : SemLoc sig → Option (Fin 21)
  | .reg _ => some 0
  | .dma q => if h : 3 ≤ q.val then some ⟨q.val - 2, by have h' : q.val < 23 := q.isLt; omega⟩ else none

theorem tagOf_osem (k : Fin 21) : tagOf (osem k) = some k := by revert k; decide
theorem osem_inj : Function.Injective osem := fun a b h => Option.some.inj ((tagOf_osem a).symm.trans ((congrArg tagOf h).trans (tagOf_osem b)))

/-- The barrier's cell, -/
abbrev kB : Fin 21 := 0
/-- the first and second weights' slots, -/
abbrev kA (s : Fin 2) : Fin 21 := ⟨1 + s.val, by omega⟩
abbrev kW (s : Fin 2) : Fin 21 := ⟨3 + s.val, by omega⟩
/-- the buckets sent and received, -/
abbrev kS1 (e : Fin 4) : Fin 21 := ⟨5 + e.val, by omega⟩
abbrev kR1 (e : Fin 4) : Fin 21 := ⟨9 + e.val, by omega⟩
/-- the rows sent back and received. -/
abbrev kS2 (e : Fin 4) : Fin 21 := ⟨13 + e.val, by omega⟩
abbrev kR2 (e : Fin 4) : Fin 21 := ⟨17 + e.val, by omega⟩

abbrev cell (c : Dev nD) (k : Fin 21) : GSem nD τ sig := ((c : Thread nD τ), osem k)

/-! ## Transfer ends and their amounts -/

abbrev sSl (e : Fin 4) : Memref sig .tc .vmem S288x1024 .bf16 := (sM.slice (slotR e) (fun _ => rfl)).squeeze S288x1024 squeezes_S1x288x1024_S288x1024
abbrev rSl (e : Fin 4) : Memref sig .tc .vmem S288x1024 .bf16 := (rM.slice (slotR e) (fun _ => rfl)).squeeze S288x1024 squeezes_S1x288x1024_S288x1024
abbrev fSl (k : Fin 8) : Memref sig .tc .vmem S288x1024 .bf16 := fM.slice (flatR k) (fun _ => rfl)
abbrev tSl (e : Fin 4) : Memref sig .tc .vmem S288x1024 .bf16 := tM.slice (backR e) (fun _ => rfl)
abbrev aSl (s : Fin 2) : Memref sig .tc .vmem S1024x2048 .f32 := (aM.slice (aR s) (fun _ => rfl)).squeeze S1024x2048 squeezes_S1x1024x2048_S1024x2048
abbrev bSl (s : Fin 2) : Memref sig .tc .vmem S2048x1024 .f32 := (bM.slice (bR s) (fun _ => rfl)).squeeze S2048x1024 squeezes_S1x2048x1024_S2048x1024
abbrev ASl (e : Fin 4) : Memref sig .tc .hbm S1024x2048 .f32 := (AM.slice (AR e) (fun _ => rfl)).squeeze S1024x2048 squeezes_S1x1024x2048_S1024x2048
abbrev BSl (e : Fin 4) : Memref sig .tc .hbm S2048x1024 .f32 := (BM.slice (BR e) (fun _ => rfl)).squeeze S2048x1024 squeezes_S1x2048x1024_S2048x1024

/-- What a transfer adds to each of its cells: weights of either layer, a bucket, a block of rows. -/
def NA : ℕ := (aSl 0).view.dmaCredit
def NB : ℕ := (bSl 0).view.dmaCredit
def N1 : ℕ := (rSl 0).view.dmaCredit
def N2 : ℕ := (fSl 0).view.dmaCredit

theorem NA_pos : 0 < NA := View.dmaCredit_pos _ (by decide)
theorem NB_pos : 0 < NB := View.dmaCredit_pos _ (by decide)
theorem N1_pos : 0 < N1 := View.dmaCredit_pos _ (by decide)
theorem N2_pos : 0 < N2 := View.dmaCredit_pos _ (by decide)

theorem credit_a (s : Fin 2) : (aSl s).view.dmaCredit = NA := rfl
theorem credit_b (s : Fin 2) : (bSl s).view.dmaCredit = NB := rfl
theorem credit_s (e : Fin 4) : (sSl e).view.dmaCredit = N1 := rfl
theorem credit_r (e : Fin 4) : (rSl e).view.dmaCredit = N1 := rfl
theorem credit_f (k : Fin 8) : (fSl k).view.dmaCredit = N2 := rfl
theorem credit_t (e : Fin 4) : (tSl e).view.dmaCredit = N2 := rfl

/-- A block of a buffer of device `c`, held in full at contents `f`. -/
def win {sp : Space} {s : Shape} {e : EltTy} (c : Dev nD) (M : Memref sig .tc sp s e) (R : Rect s)
    (f : Buf (Elt F) (M.view.loc (c : Thread nD τ))) : sProp 𝕄 :=
  M.view.loc (c : Thread nD τ) ↦[(M.access R).set]{fullShare} f

instance win_storable {sp : Space} {s : Shape} {e : EltTy} (c : Dev nD) (M : Memref sig .tc sp s e) (R : Rect s) (f) :
    BI.Storable (upEmb : UEmb _ 𝕄) (win (F := F) c M R f) := by unfold win; infer_instance

/-! ## The schedule -/

/-- What the partner's signal hands `c`: the partner's landing blocks for `c`'s transfers, and that their cells are open. -/
def barPay (c : Dev nD) : sProp 𝕄 :=
  iprop(((∃ f, win (pr c) rM (slotR 0) f) ∗ (∃ f, win (pr c) rM (slotR 1) f) ∗ (∃ f, win (pr c) rM (slotR 2) f) ∗ (∃ f, win (pr c) rM (slotR 3) f))
    ∗ ((∃ f, win (pr c) fM (flatR 4) f) ∗ (∃ f, win (pr c) fM (flatR 5) f) ∗ (∃ f, win (pr c) fM (flatR 6) f) ∗ (∃ f, win (pr c) fM (flatR 7) f))
    ∗ (reached ER (cell (pr c) (kR1 0)) 0 ∗ reached ER (cell (pr c) (kR1 1)) 0 ∗ reached ER (cell (pr c) (kR1 2)) 0 ∗ reached ER (cell (pr c) (kR1 3)) 0)
    ∗ (reached ER (cell (pr c) (kR2 0)) 0 ∗ reached ER (cell (pr c) (kR2 1)) 0 ∗ reached ER (cell (pr c) (kR2 2)) 0 ∗ reached ER (cell (pr c) (kR2 3)) 0))

variable (g : Args F)

def aPay (c : Dev nD) (s r : Fin 2) : sProp 𝕄 :=
  iprop(win c aM (aR s) (g.aC c r) ∗ win c AM (AR (ex r s)) (g.A c))
def bPay (c : Dev nD) (s r : Fin 2) : sProp 𝕄 :=
  iprop(win c bM (bR s) (g.bC c r) ∗ win c BM (BR (ex r s)) (g.B c))
def s1Pay (c : Dev nD) (e : Fin 4) : sProp 𝕄 := win c sM (slotR e) (g.sendC c)
def r1Pay (c : Dev nD) (e : Fin 4) : sProp 𝕄 := win c rM (slotR e) (g.recvC c)
def s2Pay (c : Dev nD) (e : Fin 4) : sProp 𝕄 := win c tM (backR e) (g.backC c)
def r2Pay (c : Dev nD) (e : Fin 4) : sProp 𝕄 := win c fM (flatR (far e)) (g.flatC c)

/-- The use of a weight slot a round is. -/
def useOf (r : ℕ) : Fin 2 := if r = 0 then 0 else 1

/-- What cell `k` of device `c` hands over in round `r`. -/
def pay (c : Dev nD) (k : Fin 21) (r : ℕ) : sProp 𝕄 :=
  if k.val = 0 then barPay c
  else if h : k.val < 3 then aPay g c ⟨k.val - 1, by omega⟩ (useOf r)
  else if h : k.val < 5 then bPay g c ⟨k.val - 3, by omega⟩ (useOf r)
  else if h : k.val < 9 then s1Pay g c ⟨k.val - 5, by omega⟩
  else if h : k.val < 13 then r1Pay g c ⟨k.val - 9, by omega⟩
  else if h : k.val < 17 then s2Pay g c ⟨k.val - 13, by omega⟩
  else r2Pay g c ⟨k.val - 17, by omega⟩

/-- What a contribution to cell `k` adds. -/
def amt (k : Fin 21) : ℕ := if k.val = 0 then 1 else if k.val < 3 then NA else if k.val < 5 then NB else if k.val < 13 then N1 else N2

theorem amt_pos (k : Fin 21) : 0 < amt k := by
  unfold amt
  repeat' split
  exacts [Nat.one_pos, NA_pos, NB_pos, N1_pos, N2_pos]

/-- A weight slot is used twice, every other cell once. -/
def rnds (k : Fin 21) : ℕ := if 1 ≤ k.val ∧ k.val < 5 then 2 else 1

theorem rnds_pos (k : Fin 21) : 0 < rnds k := by unfold rnds; split <;> decide
theorem rnds_A (s r : Fin 2) : r.val < rnds (kA s) := by revert s r; decide
theorem rnds_W (s r : Fin 2) : r.val < rnds (kW s) := by revert s r; decide

def Rd : Rounds.Schedule (GSem nD τ sig) Unit 𝕄 where
  duties q r := match tagOf q.2 with
    | some k => if q.1.2 = .tc ∧ r < rnds k then {()} else ∅
    | none => ∅
  unitless _ := False
  amount q _ _ := match tagOf q.2 with
    | some k => amt k
    | none => 1
  payload q r _ := match tagOf q.2 with
    | some k => pay g q.1.1 k r
    | none => iprop(emp)
  amount_pos q _ _ _ := by
    split
    · exact amt_pos _
    · exact Nat.one_pos

instance pay_storable (c : Dev nD) (k : Fin 21) (r : ℕ) : BI.Storable (upEmb : UEmb _ 𝕄) (pay g c k r) := by
  unfold pay barPay aPay bPay s1Pay r1Pay s2Pay r2Pay
  (repeat' split) <;> infer_instance

instance Rd_payload_storable (q : GSem nD τ sig) (r : ℕ) (d : Unit) : BI.Storable (upEmb : UEmb _ 𝕄) ((Rd g).payload q r d) := by
  show BI.Storable upEmb (match tagOf q.2 with
    | some k => pay g q.1.1 k r
    | none => iprop(emp))
  split <;> infer_instance

section Lemmas
variable (c : Dev nD)

theorem duties_cell (k : Fin 21) (r : ℕ) (h : r < rnds k) : (Rd g).duties (cell c k) r = {()} := by
  show (match tagOf (osem k) with | some k => if _ ∧ r < rnds k then {()} else ∅ | none => ∅) = _
  rw [tagOf_osem]; exact if_pos ⟨rfl, h⟩

theorem mem_duties (k : Fin 21) (r : ℕ) (h : r < rnds k) : () ∈ (Rd g).duties (cell c k) r := by
  rw [duties_cell g c k r h]; exact Finset.mem_singleton_self _

theorem duties_done (k : Fin 21) (r : ℕ) (h : rnds k ≤ r) : (Rd g).duties (cell c k) r = ∅ := by
  show (match tagOf (osem k) with | some k => if _ ∧ r < rnds k then {()} else ∅ | none => ∅) = _
  rw [tagOf_osem]; exact if_neg fun h' => by have := h'.2; omega

theorem amount_cell (k : Fin 21) (r : ℕ) (u : Unit) : (Rd g).amount (cell c k) r u = amt k := by
  show (match tagOf (osem k) with | some k => amt k | none => 1) = _
  rw [tagOf_osem]

theorem payload_cell (k : Fin 21) (r : ℕ) (u : Unit) : (Rd g).payload (cell c k) r u = pay g c k r := by
  show (match tagOf (osem k) with | some k => pay g c k r | none => iprop(emp)) = _
  rw [tagOf_osem]

theorem expect_cell (k : Fin 21) (r : ℕ) (h : r < rnds k) : (Rd g).expect (cell c k) r = amt k := by
  unfold Schedule.expect Schedule.amountOf; rw [duties_cell g c k r h, Finset.sum_singleton, amount_cell]

theorem rest_cell (k : Fin 21) (r : ℕ) (h : r < rnds k) :
    bigSep ((Rd g).duties (cell c k) r \ ∅) (fun u => (Rd g).payload (cell c k) r u) = pay g c k r := by
  rw [Finset.sdiff_empty, duties_cell g c k r h, bigSep_singleton, payload_cell]

theorem pay_B (r : ℕ) : pay g c kB r = barPay c := rfl
theorem pay_A (s r : Fin 2) : pay g c (kA s) r.val = aPay g c s r := by fin_cases s <;> fin_cases r <;> rfl
theorem pay_W (s r : Fin 2) : pay g c (kW s) r.val = bPay g c s r := by fin_cases s <;> fin_cases r <;> rfl
theorem pay_S1 (e : Fin 4) (r : ℕ) : pay g c (kS1 e) r = s1Pay g c e := by fin_cases e <;> rfl
theorem pay_R1 (e : Fin 4) (r : ℕ) : pay g c (kR1 e) r = r1Pay g c e := by fin_cases e <;> rfl
theorem pay_S2 (e : Fin 4) (r : ℕ) : pay g c (kS2 e) r = s2Pay g c e := by fin_cases e <;> rfl
theorem pay_R2 (e : Fin 4) (r : ℕ) : pay g c (kR2 e) r = r2Pay g c e := by fin_cases e <;> rfl

theorem amt_A (s : Fin 2) : amt (kA s) = NA := by fin_cases s <;> rfl
theorem amt_W (s : Fin 2) : amt (kW s) = NB := by fin_cases s <;> rfl
theorem amt_S1 (e : Fin 4) : amt (kS1 e) = N1 := by fin_cases e <;> rfl
theorem amt_R1 (e : Fin 4) : amt (kR1 e) = N1 := by fin_cases e <;> rfl
theorem amt_S2 (e : Fin 4) : amt (kS2 e) = N2 := by fin_cases e <;> rfl
theorem amt_R2 (e : Fin 4) : amt (kR2 e) = N2 := by fin_cases e <;> rfl

end Lemmas

theorem amount_r (e : Fin 4) : (rSl e).view.amount (osem (kR1 e)) = N1 := by fin_cases e <;> rfl
theorem amount_f (e : Fin 4) : (fSl (far e)).view.amount (osem (kR2 e)) = N2 := by fin_cases e <;> rfl
theorem amount_a (s : Fin 2) : (aSl s).view.amount (osem (kA s)) = amt (kA s) := by fin_cases s <;> rfl
theorem amount_b (s : Fin 2) : (bSl s).view.amount (osem (kW s)) = amt (kW s) := by fin_cases s <;> rfl

/-! ## What a device owes, and the levels -/

/-- The last `n` blocks of rows still to send back. -/
def owe2 (c : Dev nD) : ℕ → CellTallies nD τ sig Unit
  | 0 => 0
  | n + 1 => owe2 c n + tallyAt (cell (pr c) (kR2 ⟨3 - n, by omega⟩)) () N2

/-- The last `n` buckets still to send, and every block of rows. -/
def owe1 (c : Dev nD) : ℕ → CellTallies nD τ sig Unit
  | 0 => owe2 c 4
  | n + 1 => owe1 c n + tallyAt (cell (pr c) (kR1 ⟨3 - n, by omega⟩)) () N1

theorem owe2_step (c : Dev nD) (e : Fin 4) : owe2 c (4 - e.val) = owe2 c (3 - e.val) + tallyAt (cell (pr c) (kR2 e)) () N2 := by
  fin_cases e <;> rfl
theorem owe1_step (c : Dev nD) (e : Fin 4) : owe1 c (4 - e.val) = owe1 c (3 - e.val) + tallyAt (cell (pr c) (kR1 e)) () N1 := by
  fin_cases e <;> rfl

/-- At launch also the barrier's unit. -/
def O₀ (c : Dev nD) : CellTallies nD τ sig Unit := owe1 c 4 + tallyAt (cell (pr c) kB) () 1

def L (q : GSem nD τ sig) : Finset Unit := if q.1.2 = .tc then {()} else ∅
/-- The barrier before the buckets before the rows sent back; every other cell below them. -/
def lvS (s : SemLoc sig) : ℕ := match tagOf s with
  | some k => if k.val = 0 then 1 else if 9 ≤ k.val ∧ k.val < 13 then 2 else if 17 ≤ k.val then 3 else 0
  | none => 0
def lv (q : GSem nD τ sig) (_ : Unit) : ℕ := lvS q.2

theorem L_of_ne (q : GSem nD τ sig) (h : q.1.2 ≠ .tc) : L q = ∅ := if_neg h
theorem L_tc (c : Dev nD) (sm : SemLoc sig) : L ((c : Thread nD τ), sm) = {()} := if_pos rfl

theorem tally_pos {q q' : GSem nD τ sig} {u u' : Unit} {n : ℕ} (h : 0 < tallyAt q u n q' u') : q' = q := by
  rw [tallyAt_apply] at h
  by_contra hn
  rw [if_neg (fun h' => hn h'.1)] at h
  exact Nat.lt_irrefl 0 h

theorem owe2_pos {c : Dev nD} {n : ℕ} {q : GSem nD τ sig} {u : Unit} (h : 0 < owe2 c n q u) : ∃ e, q = cell (pr c) (kR2 e) := by
  induction n with
  | zero => exact absurd h (Nat.lt_irrefl 0)
  | succ n ih =>
    unfold owe2 at h
    rw [Pi.add_apply, Finsupp.add_apply] at h
    rcases Nat.eq_zero_or_pos (owe2 c n q u) with h0 | h0
    · rw [h0, Nat.zero_add] at h; exact ⟨_, tally_pos h⟩
    · exact ih h0

theorem owe1_pos {c : Dev nD} {n : ℕ} {q : GSem nD τ sig} {u : Unit} (h : 0 < owe1 c n q u) :
    (∃ e, q = cell (pr c) (kR1 e)) ∨ ∃ e, q = cell (pr c) (kR2 e) := by
  induction n with
  | zero => exact .inr (owe2_pos h)
  | succ n ih =>
    unfold owe1 at h
    rw [Pi.add_apply, Finsupp.add_apply] at h
    rcases Nat.eq_zero_or_pos (owe1 c n q u) with h0 | h0
    · rw [h0, Nat.zero_add] at h; exact .inl ⟨_, tally_pos h⟩
    · exact ih h0

theorem O₀_pos {c : Dev nD} {q : GSem nD τ sig} {u : Unit} (h : 0 < O₀ c q u) :
    q = cell (pr c) kB ∨ (∃ e, q = cell (pr c) (kR1 e)) ∨ ∃ e, q = cell (pr c) (kR2 e) := by
  unfold O₀ at h
  rw [Pi.add_apply, Finsupp.add_apply] at h
  rcases Nat.eq_zero_or_pos (owe1 c 4 q u) with h0 | h0
  · rw [h0, Nat.zero_add] at h; exact .inl (tally_pos h)
  · exact .inr (owe1_pos h0)

theorem lv_B (c : Dev nD) (u : Unit) : lv (cell c kB) u = 1 := rfl
theorem lv_R1 (c : Dev nD) (e : Fin 4) (u : Unit) : lv (cell c (kR1 e)) u = 2 := by revert e; decide +revert
theorem lv_R2 (c : Dev nD) (e : Fin 4) (u : Unit) : lv (cell c (kR2 e)) u = 3 := by revert e; decide +revert

/-- A device may wait on a cell below everything it owes. -/
theorem mayWait (c : Dev nD) (sm : SemLoc sig) (O : CellTallies nD τ sig Unit) (n : ℕ) (hn : lvS sm ≤ n)
    (hO : ∀ q u, 0 < O q u → q.1.2 = .tc ∧ n < lv q u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun q u hq => by rw [L, if_pos (hO q u hq).1]; exact Finset.mem_singleton_self _)
    (fun p hp => by rw [Finset.mem_singleton.mp hp]; exact hn)
    (fun q u hq => (hO q u hq).2)

/-- Waiting on the barrier or below, owing buckets and rows, -/
theorem mayWait1 (c : Dev nD) (sm : SemLoc sig) (n : ℕ) (hs : lvS sm ≤ 1) : (levAts L lv : sProp 𝕄) ⊢ MayWait (c : Thread nD τ) sm () (owe1 c n) :=
  mayWait c sm _ 1 hs fun q u h => by
    rcases owe1_pos h with ⟨e, rfl⟩ | ⟨e, rfl⟩
    · exact ⟨rfl, by rw [lv_R1]; decide⟩
    · exact ⟨rfl, by rw [lv_R2]; decide⟩
/-- and on a bucket or below, owing rows. -/
theorem mayWait2 (c : Dev nD) (sm : SemLoc sig) (n : ℕ) (hs : lvS sm ≤ 2) : (levAts L lv : sProp 𝕄) ⊢ MayWait (c : Thread nD τ) sm () (owe2 c n) :=
  mayWait c sm _ 2 hs fun q u h => by
    obtain ⟨e, rfl⟩ := owe2_pos h
    exact ⟨rfl, by rw [lv_R2]; decide⟩
theorem mayWait0 (c : Dev nD) (sm : SemLoc sig) (hs : lvS sm = 0) : (levAts L lv : sProp 𝕄) ⊢ MayWait (c : Thread nD τ) sm () (O₀ c) :=
  mayWait c sm _ 0 hs.le fun q u h => by
    rcases O₀_pos h with rfl | ⟨e, rfl⟩ | ⟨e, rfl⟩
    · exact ⟨rfl, by rw [lv_B]; decide⟩
    · exact ⟨rfl, by rw [lv_R1]; decide⟩
    · exact ⟨rfl, by rw [lv_R2]; decide⟩

end Cert.Moe

end
-- ==== Proof.Steps.lean ====
/-
# One step of the body at a time

Each lemma here runs one operation of the kernel's body from the resources it uses to the resources it leaves.
-/
module

public import proofs.«01_k».proof.Proof.Sched

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## What a device holds -/

section Res
variable (g : Args F) (K : GSem nD τ sig → ℕ) (c : Dev nD)

/-- Every cell's invariant, at the name the launch gave it. -/
def Inv : sProp 𝕄 := bigSep Finset.univ fun p : Dev nD × Fin 21 => cellInv ER (Rd g) (K (cell p.1 p.2)) (cell p.1 p.2)

instance Inv_persistent : BI.Persistent (Inv g K) := by unfold Inv; infer_instance

theorem Inv_get (k : Fin 21) : Inv g K ⊢ cellInv ER (Rd g) (K (cell c k)) (cell c k) := by
  unfold Inv
  rw [bigSep_erase (Finset.mem_univ (c, k))]
  exact sep_elim_left

/-- What the device owes. -/
def ow (O : CellTallies nD τ sig Unit) : sProp 𝕄 := iprop(∃ W, owes (c : Thread nD τ) O W)

/-- About to wait for round `r` of its cell `k`. -/
def wt (k : Fin 21) (r : ℕ) : sProp 𝕄 := iprop(cred (tallyAt (cell c k) () (amt k)) ∗ atPos ER (cell c k) r ∅ 0)

/-- A block at contents not named. -/
def winAny {sp : Space} {s : Shape} {e : EltTy} (M : Memref sig .tc sp s e) (R : Rect s) : sProp 𝕄 := iprop(∃ f, win c M R f)

/-- A cell of its own at the start of round `r`, with the right to pay it. -/
def rdy (k : Fin 21) (r : ℕ) : sProp 𝕄 := iprop(dutyTok ER (cell c k) r () ∗ reached ER (cell c k) r)

end Res

/-! ## Contents -/

theorem write_agree {κ : Kind} {sp : Space} {s : Shape} {e : EltTy} {Val : EltTy → Type} (v : View sig κ sp s e)
    (f f' : v.ty.Contents Val) (w : s.Idx → Val e) (h : v.read Val f' = w) :
    ∀ i ∈ v.set, v.write Val f w Finset.univ i = f' i := by
  intro i hi
  obtain ⟨x, -, rfl⟩ := Finset.mem_map.mp hi
  subst h
  rw [View.write_emb_of_mem _ _ (Finset.mem_univ x), View.read_apply, cast_cast, cast_eq]

section Steps
variable (g : Args F) (K : GSem nD τ sig → ℕ) (c : Dev nD)
variable {α : Type} {Q : α → sProp (MT nD τ sig Unit (Elt F) ℕ UU ℕ)}

/-- Loading something whole. -/
theorem ld {cs : CoreSpace} {s : Shape} {e : EltTy} {M : Memref sig .tc cs s e} {R : Rect s} {hl : M.view.LoadsAt R.toLoadRect}
    {k : (R.shape.Idx → Elt F e) → Prog (TpuEff nD τ sig (Elt F) Λ₀ .tc) α} (f : Buf (Elt F) (M.view.loc (c : Thread nD τ)))
    (v : R.shape.Idx → Elt F e) (hv : (M.access R).read (Elt F) f = v) :
    (M.view.loc (c : Thread nD τ) ↦{fullShare} f) ⊢
      iprop(((M.view.loc (c : Thread nD τ) ↦{fullShare} f) -∗ wp frame (wpE (defs₀ (F := F)) 𝒱₀ c none) Set.univ (k v) Q)
        -∗ wp frame (wpE (defs₀ (F := F)) 𝒱₀ c none) Set.univ (.op (.load M R.toLoadRect hl) k) Q) := by
  subst hv
  exact wp_load_rect 𝒱₀ (c : Thread nD τ) none Set.univ (m := M) (r := R) (f := f) (q := fullShare) (S := Finset.univ) (Finset.subset_univ _)

/-- Loading a block. -/
theorem ldw {cs : CoreSpace} {s : Shape} {e : EltTy} {M : Memref sig .tc cs s e} {R : Rect s} {hl : M.view.LoadsAt R.toLoadRect}
    {k : (R.shape.Idx → Elt F e) → Prog (TpuEff nD τ sig (Elt F) Λ₀ .tc) α} (f : Buf (Elt F) (M.view.loc (c : Thread nD τ)))
    (v : R.shape.Idx → Elt F e) (hv : (M.access R).read (Elt F) f = v) :
    win c M R f ⊢
      iprop((win c M R f -∗ wp frame (wpE (defs₀ (F := F)) 𝒱₀ c none) Set.univ (k v) Q)
        -∗ wp frame (wpE (defs₀ (F := F)) 𝒱₀ c none) Set.univ (.op (.load M R.toLoadRect hl) k) Q) := by
  subst hv
  unfold win
  exact wp_load_rect 𝒱₀ (c : Thread nD τ) none Set.univ (m := M) (r := R) (f := f) (q := fullShare) (S := (M.access R).set) (Finset.Subset.refl _)

/-- Reading a block for nothing and then writing it. -/
theorem put {cs : CoreSpace} {s : Shape} {e : EltTy} {M : Memref sig .tc cs s e} {R : Rect s} {hl : M.view.LoadsAt R.toLoadRect}
    {w : R.shape.Idx → Elt F e} {hx : (M.access R).Stores Finset.univ} {hm : Finset.univ = Finset.univ ∨ ∀ a, R.stride a = 1}
    {k : PUnit → Prog (TpuEff nD τ sig (Elt F) Λ₀ .tc) α} (f' : Buf (Elt F) (M.view.loc (c : Thread nD τ)))
    (v : R.shape.Idx → Elt F e) (hv : (M.access R).read (Elt F) f' = v) (hw : w = v) :
    winAny c M R ⊢
      iprop((win c M R f' -∗ wp frame (wpE (defs₀ (F := F)) 𝒱₀ c none) Set.univ (k ⟨⟩) Q)
        -∗ wp frame (wpE (defs₀ (F := F)) 𝒱₀ c none) Set.univ
          (.op (.load M R.toLoadRect hl) fun _ => .op (.store M R w Finset.univ hx hm) k) Q) := by
  subst hw
  unfold winAny
  iintro ⟨%f, H⟩ Hk
  iapply (wp_load_rect 𝒱₀ (c : Thread nD τ) none Set.univ (m := M) (r := R) (f := f) (q := fullShare) (Finset.Subset.refl _)) $$ [H]
  · unfold win; iexact H
  iintro H
  iapply (wp_store 𝒱₀ (c : Thread nD τ) none Set.univ (m := M) (r := R) (f := f) (S := (M.access R).set) (View.setOn_subset_set _ _)) $$ [H]
  · iexact H
  iintro H
  iapply Hk
  unfold win
  iapply (Entails.of_eq (pointsTo_congr (write_agree (M.access R) f f' w hv))) $$ H

/-- Waiting for a transfer. -/
theorem wait_dma (kk : Fin 21) (r : ℕ) (O : CellTallies nD τ sig Unit) (hr : r < rnds kk)
    (hM : (levAts L lv : sProp 𝕄) ⊢ MayWait (c : Thread nD τ) (osem kk) () O)
    {sp sp' : Space} {s s' : Shape} {e e' : EltTy} {sm : DmaSem sig} {src : Memref sig .tc sp' s' e'} {dst : Memref sig .tc sp s e}
    {hsrc : src.view.WordExact} {hdst : dst.view.WordExact} {k : PUnit → Prog (TpuEff nD τ sig (Elt F) Λ₀ .tc) α}
    (hs : SemLoc.dma sm = osem kk) (hn : dst.view.dmaCredit = amt kk) :
    iprop(Inv g K ∗ levAts L lv ∗ ow c O ∗ wt c kk r) ⊢
      iprop(((ow c O ∗ atPos ER (cell c kk) (r + 1) ∅ 0 ∗ reached ER (cell c kk) (r + 1) ∗ pay g c kk r)
          -∗ wp frame (wpE (defs₀ (F := F)) 𝒱₀ c none) Set.univ (k ⟨⟩) Q)
        -∗ wp frame (wpE (defs₀ (F := F)) 𝒱₀ c none) Set.univ (.op (.waitDma2 sm src dst hsrc hdst) k) Q) := by
  unfold ow wt
  iintro ⟨#HI, #Hlev, ⟨%W, HO⟩, Hc, Ha⟩ Hk
  ihave #HIc := (Inv_get g K c kk) $$ HI
  iapply (Rounds.wp_wait_rest_token 𝒱₀ ER (Rd g) (c : Thread nD τ) none (sm := osem kk) (k' := amt kk) (κ := K (cell c kk))
      (fun K' => (wpE_waitDma2_eq (hsrc := hsrc) (hdst := hdst) 𝒱₀ (c : Thread nD τ) none Set.univ K').trans (by rw [hs, hn]))
      (Set.mem_univ _) () (O := O) (W := W) (R := r) (m := 0) (T := ∅)
      ((Nat.zero_add _).trans (expect_cell g c kk r hr).symm)) $$ [HO Hc Ha]
  · isplitr; · iexact HIc
    isplitl [Hc]; · iexact Hc
    isplitl [HO]; · iexact HO
    isplitr; · iapply hM; iexact Hlev
    iexact Ha
  iintro ⟨HO, Ha, Hr, Hp⟩
  iapply Hk
  isplitl [HO]; · iexists _; iexact HO
  isplitl [Ha]; · iexact Ha
  isplitl [Hr]; · iexact Hr
  iapply (Entails.of_eq (rest_cell g c kk r hr)) $$ Hp

/-- Waiting on the barrier. -/
theorem wait_bar {n : ℕ} (hn : n = 1) {k : PUnit → Prog (TpuEff nD τ sig (Elt F) Λ₀ .tc) α} :
    iprop(Inv g K ∗ levAts L lv ∗ ow c (owe1 c 4) ∗ wt c kB 0) ⊢
      iprop(((ow c (owe1 c 4) ∗ atPos ER (cell c kB) 1 ∅ 0 ∗ barPay c)
          -∗ wp frame (wpE (defs₀ (F := F)) 𝒱₀ c none) Set.univ (k ⟨⟩) Q)
        -∗ wp frame (wpE (defs₀ (F := F)) 𝒱₀ c none) Set.univ (.op (.semWait barrier0 n) k) Q) := by
  subst hn
  unfold ow wt
  iintro ⟨#HI, #Hlev, ⟨%W, HO⟩, Hc, Ha⟩ Hk
  ihave #HIc := (Inv_get g K c kB) $$ HI
  iapply (Rounds.wp_wait_rest_token 𝒱₀ ER (Rd g) (c : Thread nD τ) none (κ := K (cell c kB))
      (wpE_semWait_eq 𝒱₀ (c : Thread nD τ) none Set.univ)
      (Set.mem_univ _) () (O := owe1 c 4) (W := W) (R := 0) (m := 0) (T := ∅)
      ((Nat.zero_add _).trans (expect_cell g c kB 0 (by decide)).symm)) $$ [HO Hc Ha]
  · isplitr; · iexact HIc
    isplitl [Hc]; · iexact Hc
    isplitl [HO]; · iexact HO
    isplitr; · iapply (mayWait1 c (osem kB) 4 (by decide)); iexact Hlev
    iexact Ha
  iintro ⟨HO, Ha, -, Hp⟩
  iapply Hk
  isplitl [HO]; · iexists _; iexact HO
  isplitl [Ha]; · iexact Ha
  iapply (Entails.of_eq (show bigSep ((Rd g).duties ((c : Thread nD τ), SemLoc.reg barrier0) 0 \ ∅)
    (fun u => (Rd g).payload ((c : Thread nD τ), SemLoc.reg barrier0) 0 u) = barPay c from rest_cell g c kB 0 (by decide))) $$ Hp

/-- Signalling the partner: the landing blocks go, with the news that their cells are open. -/
theorem sig_bar {d : Dev nD} (hd : d = pr c) {n : ℕ} (hn : n = 1) {k : PUnit → Prog (TpuEff nD τ sig (Elt F) Λ₀ .tc) α} :
    iprop(Inv g K ∗ ow c (O₀ c) ∗ rdy (pr c) kB 0 ∗ barPay (pr c)) ⊢
      iprop((ow c (owe1 c 4) -∗ wp frame (wpE (defs₀ (F := F)) 𝒱₀ c none) Set.univ (k ⟨⟩) Q)
        -∗ wp frame (wpE (defs₀ (F := F)) 𝒱₀ c none) Set.univ (.op (.semSignal (Dev.tc d) barrier0 n) k) Q) := by
  subst hd hn
  unfold ow rdy
  iintro ⟨#HI, ⟨%W, HO⟩, ⟨Ht, Hr⟩, Hp⟩ Hk
  ihave #HIc := (Inv_get g K (pr c) kB) $$ HI
  iapply (Rounds.wp_signal 𝒱₀ ER (Rd g) (c : Thread nD τ) none (dst := (pr c : Thread nD τ)) (sem := barrier0) (r := 0) (d := ()) (κ := K (cell (pr c) kB))
      (mem_duties g (pr c) kB 0 (by decide)) (amount_cell g (pr c) kB 0 ()) () (owe1 c 4) rfl) $$ [HO Ht Hr Hp]
  · isplitr; · iexact HIc
    isplitl [HO]; · iexact HO
    isplitl [Ht]; · iexact Ht
    isplitl [Hp]; · iapply (Entails.of_eq (show barPay (pr c) = (Rd g).payload ((pr c : Thread nD τ), SemLoc.reg barrier0) 0 () from (payload_cell g (pr c) kB 0 ()).symm)) $$ Hp
    iexact Hr
  iintro HO
  iapply Hk
  iexists W; iexact HO

/-- Fetching one expert's first weights. -/
theorem fetchA (s r : Fin 2) {src : Memref sig .tc .hbm S1024x2048 .f32} {dst : Memref sig .tc .vmem S1024x2048 .f32} {sm : SemLoc sig}
    {hsrc : src.view.WordExact} {hdst : dst.view.WordExact} {hsem : DmaTarget.Typed (nD := nD) .hbm sm (.here (p := (c : Thread nD τ).2) dst)}
    {k : PUnit → Prog (TpuEff nD τ sig (Elt F) Λ₀ .tc) α}
    (h1 : src = ASl (ex r s)) (h2 : dst = aSl s) (h3 : sm = osem (kA s)) :
    iprop(Inv g K ∗ rdy c (kA s) r.val ∗ winAny c aM (aR s) ∗ win c AM (AR (ex r s)) (g.A c)) ⊢
      iprop((cred (tallyAt (cell c (kA s)) () (amt (kA s))) -∗ wp frame (wpE (defs₀ (F := F)) 𝒱₀ c none) Set.univ (k ⟨⟩) Q)
        -∗ wp frame (wpE (defs₀ (F := F)) 𝒱₀ c none) Set.univ (.op (.enqueueDma src (.here dst) sm hsrc hdst hsem) k) Q) := by
  subst h1 h2 h3
  unfold rdy winAny win
  iintro ⟨#HI, ⟨Ht, Hr⟩, ⟨%f, Hd⟩, Hs⟩ Hk
  ihave #HIc := (Inv_get g K c (kA s)) $$ HI
  have hset : (aSl s).view.set = (aM.access (aR s)).set := View.set_reshape _ _
  have hset' : (ASl (ex r s)).view.set = (AM.access (AR (ex r s))).set := View.set_reshape _ _
  rw [← hset, ← hset']
  iapply (Rounds.wp_copy_pointsTo 𝒱₀ ER (Rd g) (c : Thread nD τ) none (src := ASl (ex r s)) (dst := aSl s)
      (sem := osem (kA s)) (q := fullShare) (fs := g.A c) (fd := f) (r := r.val) (d := ()) (κ := K (cell c (kA s)))
      (mem_duties g c (kA s) r.val (rnds_A s r)) () (amt (kA s)) (amount_a s) (amount_cell g c (kA s) r.val ())
      (by
        rw [payload_cell, pay_A]
        unfold aPay win
        rw [← hset, ← hset']
        refine sep_mono_left (Entails.of_eq (pointsTo_congr (write_agree (aSl s).view f (g.aC c r) _ ?_)))
        exact funext fun x => congrFun (g.read_aC c r s) (Shape.reshapeEquiv _ x))) $$ [Ht Hr Hd Hs]
  · isplitr; · iexact HIc
    isplitl [Hs]; · iexact Hs
    isplitl [Hd]; · iexact Hd
    isplitl [Ht] <;> iassumption
  iexact Hk

/-- Fetching its second weights. -/
theorem fetchB (s r : Fin 2) {src : Memref sig .tc .hbm S2048x1024 .f32} {dst : Memref sig .tc .vmem S2048x1024 .f32} {sm : SemLoc sig}
    {hsrc : src.view.WordExact} {hdst : dst.view.WordExact} {hsem : DmaTarget.Typed (nD := nD) .hbm sm (.here (p := (c : Thread nD τ).2) dst)}
    {k : PUnit → Prog (TpuEff nD τ sig (Elt F) Λ₀ .tc) α}
    (h1 : src = BSl (ex r s)) (h2 : dst = bSl s) (h3 : sm = osem (kW s)) :
    iprop(Inv g K ∗ rdy c (kW s) r.val ∗ winAny c bM (bR s) ∗ win c BM (BR (ex r s)) (g.B c)) ⊢
      iprop((cred (tallyAt (cell c (kW s)) () (amt (kW s))) -∗ wp frame (wpE (defs₀ (F := F)) 𝒱₀ c none) Set.univ (k ⟨⟩) Q)
        -∗ wp frame (wpE (defs₀ (F := F)) 𝒱₀ c none) Set.univ (.op (.enqueueDma src (.here dst) sm hsrc hdst hsem) k) Q) := by
  subst h1 h2 h3
  unfold rdy winAny win
  iintro ⟨#HI, ⟨Ht, Hr⟩, ⟨%f, Hd⟩, Hs⟩ Hk
  ihave #HIc := (Inv_get g K c (kW s)) $$ HI
  have hset : (bSl s).view.set = (bM.access (bR s)).set := View.set_reshape _ _
  have hset' : (BSl (ex r s)).view.set = (BM.access (BR (ex r s))).set := View.set_reshape _ _
  rw [← hset, ← hset']
  iapply (Rounds.wp_copy_pointsTo 𝒱₀ ER (Rd g) (c : Thread nD τ) none (src := BSl (ex r s)) (dst := bSl s)
      (sem := osem (kW s)) (q := fullShare) (fs := g.B c) (fd := f) (r := r.val) (d := ()) (κ := K (cell c (kW s)))
      (mem_duties g c (kW s) r.val (rnds_W s r)) () (amt (kW s)) (amount_b s) (amount_cell g c (kW s) r.val ())
      (by
        rw [payload_cell, pay_W]
        unfold bPay win
        rw [← hset, ← hset']
        refine sep_mono_left (Entails.of_eq (pointsTo_congr (write_agree (bSl s).view f (g.bC c r) _ ?_)))
        exact funext fun x => congrFun (g.read_bC c r s) (Shape.reshapeEquiv _ x))) $$ [Ht Hr Hd Hs]
  · isplitr; · iexact HIc
    isplitl [Hs]; · iexact Hs
    isplitl [Hd]; · iexact Hd
    isplitl [Ht] <;> iassumption
  iexact Hk

/-- Where a bucket lands, and the right to land there. -/
def land1 (e : Fin 4) : sProp 𝕄 := iprop(winAny (pr c) rM (slotR e) ∗ rdy (pr c) (kR1 e) 0)
/-- Where a block of rows lands. -/
def land2 (e : Fin 4) : sProp 𝕄 := iprop(winAny (pr c) fM (flatR (far e)) ∗ rdy (pr c) (kR2 e) 0)

/-- Sending a bucket. -/
theorem send1 (e : Fin 4) {d : Dev nD} {src : Memref sig .tc .vmem S288x1024 .bf16} {dst : Memref sig (Dev.tc d : Thread nD τ).2.kind .vmem S288x1024 .bf16}
    {hsc : dst.view.ref.isScScratch = false} {sS sm : SemLoc sig}
    {hsrc : src.view.WordExact} {hdst : dst.view.WordExact} {hsem : DmaTarget.Typed .vmem sm (.remote (Dev.tc d : Thread nD τ) dst sS hsc)}
    {k : PUnit → Prog (TpuEff nD τ sig (Elt F) Λ₀ .tc) α}
    (hd : d = pr c) (h1 : src = sSl e) (h2 : dst = rSl e) (h3 : sS = osem (kS1 e)) (h4 : sm = osem (kR1 e)) :
    iprop(Inv g K ∗ ow c (owe1 c (4 - e.val)) ∗ win c sM (slotR e) (g.sendC c) ∗ rdy c (kS1 e) 0 ∗ land1 c e) ⊢
      iprop(((ow c (owe1 c (3 - e.val)) ∗ cred (tallyAt (cell c (kS1 e)) () (amt (kS1 e))))
          -∗ wp frame (wpE (defs₀ (F := F)) 𝒱₀ c none) Set.univ (k ⟨⟩) Q)
        -∗ wp frame (wpE (defs₀ (F := F)) 𝒱₀ c none) Set.univ (.op (.enqueueDma src (.remote (Dev.tc d) dst sS hsc) sm hsrc hdst hsem) k) Q) := by
  subst hd h1 h2 h3 h4
  unfold land1 rdy winAny win ow
  iintro ⟨#HI, ⟨%W, HO⟩, Hs, ⟨Ht, Hr⟩, ⟨%f, Hd⟩, Ht', Hr'⟩ Hk
  ihave #HIc := (Inv_get g K c (kS1 e)) $$ HI
  ihave #HIp := (Inv_get g K (pr c) (kR1 e)) $$ HI
  have hset : (rSl e).view.set = (rM.access (slotR e)).set := View.set_reshape _ _
  have hset' : (sSl e).view.set = (sM.access (slotR e)).set := View.set_reshape _ _
  rw [← hset, ← hset', amt_S1]
  iapply (Rounds.wp_send_pointsTo 𝒱₀ ER (Rd g) (c : Thread nD τ) none (c' := (pr c : Thread nD τ)) (src := sSl e) (dst := rSl e)
      (sS := osem (kS1 e)) (sem := osem (kR1 e)) (q := fullShare) (fs := g.sendC c) (κ₁ := K (cell c (kS1 e))) (κ₂ := K (cell (pr c) (kR1 e)))
      (r₁ := 0) (r₂ := 0) (d₁ := ()) (d₂ := ()) (fd := f)
      (mem_duties g c (kS1 e) 0 (rnds_pos _)) (mem_duties g (pr c) (kR1 e) 0 (rnds_pos _))
      () () N1 (amount_r e) ((amount_cell g c (kS1 e) 0 ()).trans (amt_S1 e)) ((amount_cell g (pr c) (kR1 e) 0 ()).trans (amt_R1 e))
      (owe1 c (3 - e.val)) (owe1_step c e) (W := W)
      (by rw [payload_cell, pay_S1]; unfold s1Pay win; rw [← hset'])
      (by
        rw [payload_cell, pay_R1]
        unfold r1Pay win
        rw [← hset]
        refine Entails.of_eq (pointsTo_congr (write_agree (rSl e).view f (g.recvC (pr c)) _ ?_))
        have hrd : (rM.access (slotR e)).read (Elt F) (g.recvC (pr c)) = (sM.access (slotR e)).read (Elt F) (g.sendC c) :=
          (g.read_recvC (pr c) e).trans (by rw [pr_pr]; exact (g.read_sendC c e).symm)
        exact funext fun x => congrFun hrd (Shape.reshapeEquiv _ x)))
      $$ [HO Hs Ht Hr Hd Ht' Hr']
  · isplitr; · iexact HIc
    isplitr; · iexact HIp
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  iapply Hk
  isplitl [HO]; · iexists W; iexact HO
  iexact Hc

/-- Sending a block of rows back. -/
theorem send2 (e : Fin 4) {d : Dev nD} {src : Memref sig .tc .vmem S288x1024 .bf16} {dst : Memref sig (Dev.tc d : Thread nD τ).2.kind .vmem S288x1024 .bf16}
    {hsc : dst.view.ref.isScScratch = false} {sS sm : SemLoc sig}
    {hsrc : src.view.WordExact} {hdst : dst.view.WordExact} {hsem : DmaTarget.Typed .vmem sm (.remote (Dev.tc d : Thread nD τ) dst sS hsc)}
    {k : PUnit → Prog (TpuEff nD τ sig (Elt F) Λ₀ .tc) α}
    (hd : d = pr c) (h1 : src = tSl e) (h2 : dst = fSl (far e)) (h3 : sS = osem (kS2 e)) (h4 : sm = osem (kR2 e)) :
    iprop(Inv g K ∗ ow c (owe2 c (4 - e.val)) ∗ win c tM (backR e) (g.backC c) ∗ rdy c (kS2 e) 0 ∗ land2 c e) ⊢
      iprop(((ow c (owe2 c (3 - e.val)) ∗ cred (tallyAt (cell c (kS2 e)) () (amt (kS2 e))))
          -∗ wp frame (wpE (defs₀ (F := F)) 𝒱₀ c none) Set.univ (k ⟨⟩) Q)
        -∗ wp frame (wpE (defs₀ (F := F)) 𝒱₀ c none) Set.univ (.op (.enqueueDma src (.remote (Dev.tc d) dst sS hsc) sm hsrc hdst hsem) k) Q) := by
  subst hd h1 h2 h3 h4
  unfold land2 rdy winAny win ow
  iintro ⟨#HI, ⟨%W, HO⟩, Hs, ⟨Ht, Hr⟩, ⟨%f, Hd⟩, Ht', Hr'⟩ Hk
  ihave #HIc := (Inv_get g K c (kS2 e)) $$ HI
  ihave #HIp := (Inv_get g K (pr c) (kR2 e)) $$ HI
  rw [amt_S2]
  iapply (Rounds.wp_send_pointsTo 𝒱₀ ER (Rd g) (c : Thread nD τ) none (c' := (pr c : Thread nD τ)) (src := tSl e) (dst := fSl (far e))
      (sS := osem (kS2 e)) (sem := osem (kR2 e)) (q := fullShare) (fs := g.backC c) (κ₁ := K (cell c (kS2 e))) (κ₂ := K (cell (pr c) (kR2 e)))
      (r₁ := 0) (r₂ := 0) (d₁ := ()) (d₂ := ()) (fd := f)
      (mem_duties g c (kS2 e) 0 (rnds_pos _)) (mem_duties g (pr c) (kR2 e) 0 (rnds_pos _))
      () () N2 (amount_f e) ((amount_cell g c (kS2 e) 0 ()).trans (amt_S2 e)) ((amount_cell g (pr c) (kR2 e) 0 ()).trans (amt_R2 e))
      (owe2 c (3 - e.val)) (owe2_step c e) (W := W)
      (by rw [payload_cell, pay_S2]; exact Entails.of_eq rfl)
      (by
        rw [payload_cell, pay_R2]
        unfold r2Pay win
        refine Entails.of_eq (pointsTo_congr (write_agree (fSl (far e)).view f (g.flatC (pr c)) _ ?_))
        exact (g.read_flatC (pr c) (far e)).trans ((g.rows_far (pr c) e).trans (by rw [pr_pr]; exact (g.read_backC c e).symm))))
      $$ [HO Hs Ht Hr Hd Ht' Hr']
  · isplitr; · iexact HIc
    isplitr; · iexact HIp
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  iapply Hk
  isplitl [HO]; · iexists W; iexact HO
  iexact Hc

end Steps

end Cert.Moe

end
-- ==== Proof.Moves.lean ====
/-
# The moves of the body

The steps of the module before, at the buffers and cells of this kernel and in the form the body's run uses them:
first what the step needs, then the rest of the program.
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Moves
variable (g : Args F) (K : GSem nD τ sig → ℕ) (c : Dev nD)

/-- The cells' invariants and the levels. -/
def env : sProp 𝕄 := iprop(Inv g K ∗ levAts L lv)
instance env_persistent : BI.Persistent (env g K) := by unfold env; infer_instance

/-- The keys and the tokens in their staging buffers. -/
def keyB : sProp 𝕄 := kM.view.loc (c : Thread nD τ) ↦{fullShare} g.k c
def xB : sProp 𝕄 := xM.view.loc (c : Thread nD τ) ↦{fullShare} g.x c

/-- A weight slot about to be fetched into for its use `r`, and one that has been. -/
def idleA (s r : Fin 2) : sProp 𝕄 := iprop(atPos ER (cell c (kA s)) r.val ∅ 0 ∗ rdy c (kA s) r.val ∗ winAny c aM (aR s) ∗ win c AM (AR (ex r s)) (g.A c))
def idleB (s r : Fin 2) : sProp 𝕄 := iprop(atPos ER (cell c (kW s)) r.val ∅ 0 ∗ rdy c (kW s) r.val ∗ winAny c bM (bR s) ∗ win c BM (BR (ex r s)) (g.B c))
def fullA (s r : Fin 2) : sProp 𝕄 := iprop(atPos ER (cell c (kA s)) (r.val + 1) ∅ 0 ∗ reached ER (cell c (kA s)) (r.val + 1) ∗ win c aM (aR s) (g.aC c r) ∗ win c AM (AR (ex r s)) (g.A c))
def fullB (s r : Fin 2) : sProp 𝕄 := iprop(atPos ER (cell c (kW s)) (r.val + 1) ∅ 0 ∗ reached ER (cell c (kW s)) (r.val + 1) ∗ win c bM (bR s) (g.bC c r) ∗ win c BM (BR (ex r s)) (g.B c))

/-- The rights to send bucket `e`, and to send its rows back. -/
def sendT (e : Fin 4) : sProp 𝕄 := iprop(rdy c (kS1 e) 0 ∗ land1 (F := F) c e ∗ atPos ER (cell c (kS1 e)) 0 ∅ 0)
def backT (e : Fin 4) : sProp 𝕄 := iprop(rdy c (kS2 e) 0 ∗ land2 (F := F) c e ∗ atPos ER (cell c (kS2 e)) 0 ∅ 0)

/-- A bucket back from its sending, a bucket received, rows back from their sending, rows received. -/
def gotS1 (e : Fin 4) : sProp 𝕄 := iprop(atPos ER (cell c (kS1 e)) 1 ∅ 0 ∗ win c sM (slotR e) (g.sendC c))
def gotR1 (e : Fin 4) : sProp 𝕄 := iprop(atPos ER (cell c (kR1 e)) 1 ∅ 0 ∗ win c rM (slotR e) (g.recvC c))
def gotS2 (e : Fin 4) : sProp 𝕄 := iprop(atPos ER (cell c (kS2 e)) 1 ∅ 0 ∗ win c tM (backR e) (g.backC c))
def gotR2 (e : Fin 4) : sProp 𝕄 := iprop(atPos ER (cell c (kR2 e)) 1 ∅ 0 ∗ win c fM (flatR (far e)) (g.flatC c))

variable {α : Type} {Q : α → sProp (MT nD τ sig Unit (Elt F) ℕ UU ℕ)}

/-! ### Loads -/

theorem read_key (inb) : (kM.access (Rect.unit (s := S2048) ![0] S2048.size inb)).read (Elt F) (g.k c) = g.k c :=
  Memref.readAt_unit_zero (Elt F) cc0_stg1_0 (by funext a; fin_cases a; rfl) inb (g.k c)
theorem read_x (inb) : (xM.access (Rect.unit (s := S2048x1024) ![0, 0] S2048x1024.size inb)).read (Elt F) (g.x c) = g.x c :=
  Memref.readAt_unit_zero (Elt F) cc0_stg0_0 (by funext a; fin_cases a <;> rfl) inb (g.x c)

theorem ld_key {inb} {hl : kM.view.LoadsAt ((Rect.unit (s := S2048) ![0] S2048.size inb : Rect _)).toLoadRect} {k : ((Rect.unit (s := S2048) ![0] S2048.size inb : Rect _).shape.Idx → Elt F .i32) → Prog (TpuEff nD τ sig (Elt F) Λ₀ .tc) α} :
    keyB g c ⊢ iprop((keyB g c -∗ wp frame (wpE (defs₀ (F := F)) 𝒱₀ c none) Set.univ (k (g.k c)) Q) -∗ wp frame (wpE (defs₀ (F := F)) 𝒱₀ c none) Set.univ (.op (.load kM (Rect.unit (s := S2048) ![0] S2048.size inb : Rect _).toLoadRect hl) k) Q) :=
  ld c (M := kM) (g.k c) _ (read_key g c inb)
theorem ld_x {inb} {hl : xM.view.LoadsAt ((Rect.unit (s := S2048x1024) ![0, 0] S2048x1024.size inb : Rect _)).toLoadRect} {k : ((Rect.unit (s := S2048x1024) ![0, 0] S2048x1024.size inb : Rect _).shape.Idx → Elt F .f32) → Prog (TpuEff nD τ sig (Elt F) Λ₀ .tc) α} :
    xB g c ⊢ iprop((xB g c -∗ wp frame (wpE (defs₀ (F := F)) 𝒱₀ c none) Set.univ (k (g.x c)) Q) -∗ wp frame (wpE (defs₀ (F := F)) 𝒱₀ c none) Set.univ (.op (.load xM (Rect.unit (s := S2048x1024) ![0, 0] S2048x1024.size inb : Rect _).toLoadRect hl) k) Q) :=
  ld c (M := xM) (g.x c) _ (read_x g c inb)
theorem ld_kc (j : Fin 8) {hl : kM.view.LoadsAt ((keyR j : Rect _)).toLoadRect} {k : ((keyR j : Rect _).shape.Idx → Elt F .i32) → Prog (TpuEff nD τ sig (Elt F) Λ₀ .tc) α} :
    keyB g c ⊢ iprop((keyB g c -∗ wp frame (wpE (defs₀ (F := F)) 𝒱₀ c none) Set.univ (k (g.kc c j)) Q) -∗ wp frame (wpE (defs₀ (F := F)) 𝒱₀ c none) Set.univ (.op (.load kM (keyR j : Rect _).toLoadRect hl) k) Q) :=
  ld c (M := kM) (g.k c) _ rfl
theorem ld_low {hl : fM.view.LoadsAt ((lowR : Rect _)).toLoadRect} {k : ((lowR : Rect _).shape.Idx → Elt F .bf16) → Prog (TpuEff nD τ sig (Elt F) Λ₀ .tc) α} :
    win c fM lowR (g.flatC c) ⊢ iprop((win c fM lowR (g.flatC c) -∗ wp frame (wpE (defs₀ (F := F)) 𝒱₀ c none) Set.univ (k (g.low c)) Q) -∗ wp frame (wpE (defs₀ (F := F)) 𝒱₀ c none) Set.univ (.op (.load fM (lowR : Rect _).toLoadRect hl) k) Q) :=
  ldw c (M := fM) (g.flatC c) _ rfl
theorem ld_mid {hl : fM.view.LoadsAt ((midR : Rect _)).toLoadRect} {k : ((midR : Rect _).shape.Idx → Elt F .bf16) → Prog (TpuEff nD τ sig (Elt F) Λ₀ .tc) α} :
    win c fM midR (g.flatC c) ⊢ iprop((win c fM midR (g.flatC c) -∗ wp frame (wpE (defs₀ (F := F)) 𝒱₀ c none) Set.univ (k (g.mid c)) Q) -∗ wp frame (wpE (defs₀ (F := F)) 𝒱₀ c none) Set.univ (.op (.load fM (midR : Rect _).toLoadRect hl) k) Q) :=
  ldw c (M := fM) (g.flatC c) _ rfl
theorem ld_top {hl : fM.view.LoadsAt ((topR : Rect _)).toLoadRect} {k : ((topR : Rect _).shape.Idx → Elt F .bf16) → Prog (TpuEff nD τ sig (Elt F) Λ₀ .tc) α} :
    win c fM topR (g.flatC c) ⊢ iprop((win c fM topR (g.flatC c) -∗ wp frame (wpE (defs₀ (F := F)) 𝒱₀ c none) Set.univ (k (g.top c)) Q) -∗ wp frame (wpE (defs₀ (F := F)) 𝒱₀ c none) Set.univ (.op (.load fM (topR : Rect _).toLoadRect hl) k) Q) :=
  ldw c (M := fM) (g.flatC c) _ rfl
theorem ld_o1 (j : Fin 8) {hl : oM.view.LoadsAt ((outR j : Rect _)).toLoadRect} {k : ((outR j : Rect _).shape.Idx → Elt F .f32) → Prog (TpuEff nD τ sig (Elt F) Λ₀ .tc) α} :
    win c oM (outR j) (g.out1 c) ⊢ iprop((win c oM (outR j) (g.out1 c) -∗ wp frame (wpE (defs₀ (F := F)) 𝒱₀ c none) Set.univ (k (g.o1 c j)) Q) -∗ wp frame (wpE (defs₀ (F := F)) 𝒱₀ c none) Set.univ (.op (.load oM (outR j : Rect _).toLoadRect hl) k) Q) :=
  ldw c (M := oM) (g.out1 c) _ (Args.read_out (g.o1 c) j)
theorem ld_o2 (j : Fin 8) {hl : oM.view.LoadsAt ((outR j : Rect _)).toLoadRect} {k : ((outR j : Rect _).shape.Idx → Elt F .f32) → Prog (TpuEff nD τ sig (Elt F) Λ₀ .tc) α} :
    win c oM (outR j) (g.out2 c) ⊢ iprop((win c oM (outR j) (g.out2 c) -∗ wp frame (wpE (defs₀ (F := F)) 𝒱₀ c none) Set.univ (k (g.o2 c j)) Q) -∗ wp frame (wpE (defs₀ (F := F)) 𝒱₀ c none) Set.univ (.op (.load oM (outR j : Rect _).toLoadRect hl) k) Q) :=
  ldw c (M := oM) (g.out2 c) _ (Args.read_out (g.o2 c) j)
theorem ld_a (s r : Fin 2) {hl : aM.view.LoadsAt ((aR s : Rect _)).toLoadRect} {k : ((aR s : Rect _).shape.Idx → Elt F .f32) → Prog (TpuEff nD τ sig (Elt F) Λ₀ .tc) α} :
    fullA g c s r ⊢ iprop((fullA g c s r -∗ wp frame (wpE (defs₀ (F := F)) 𝒱₀ c none) Set.univ (k (g.a c (ex r s))) Q) -∗ wp frame (wpE (defs₀ (F := F)) 𝒱₀ c none) Set.univ (.op (.load aM (aR s : Rect _).toLoadRect hl) k) Q) := by
  unfold fullA
  iintro ⟨Ha, Hr, Hw, Hm⟩ Hk
  iapply (ldw c (M := aM) (R := aR s) (g.aC c r) _ (g.read_aC c r s)) $$ Hw
  iintro Hw
  iapply Hk
  isplitl [Ha]; · iexact Ha
  isplitl [Hr]; · iexact Hr
  isplitl [Hw] <;> iassumption
theorem ld_b (s r : Fin 2) {hl : bM.view.LoadsAt ((bR s : Rect _)).toLoadRect} {k : ((bR s : Rect _).shape.Idx → Elt F .f32) → Prog (TpuEff nD τ sig (Elt F) Λ₀ .tc) α} :
    fullB g c s r ⊢ iprop((fullB g c s r -∗ wp frame (wpE (defs₀ (F := F)) 𝒱₀ c none) Set.univ (k (g.b c (ex r s))) Q) -∗ wp frame (wpE (defs₀ (F := F)) 𝒱₀ c none) Set.univ (.op (.load bM (bR s : Rect _).toLoadRect hl) k) Q) := by
  unfold fullB
  iintro ⟨Ha, Hr, Hw, Hm⟩ Hk
  iapply (ldw c (M := bM) (R := bR s) (g.bC c r) _ (g.read_bC c r s)) $$ Hw
  iintro Hw
  iapply Hk
  isplitl [Ha]; · iexact Ha
  isplitl [Hr]; · iexact Hr
  isplitl [Hw] <;> iassumption
theorem ld_recv (e : Fin 4) {hl : rM.view.LoadsAt ((slotR e : Rect _)).toLoadRect} {k : ((slotR e : Rect _).shape.Idx → Elt F .bf16) → Prog (TpuEff nD τ sig (Elt F) Λ₀ .tc) α} :
    gotR1 g c e ⊢ iprop((gotR1 g c e -∗ wp frame (wpE (defs₀ (F := F)) 𝒱₀ c none) Set.univ (k (g.snd (pr c) e)) Q) -∗ wp frame (wpE (defs₀ (F := F)) 𝒱₀ c none) Set.univ (.op (.load rM (slotR e : Rect _).toLoadRect hl) k) Q) := by
  unfold gotR1
  iintro ⟨Ha, Hw⟩ Hk
  iapply (ldw c (M := rM) (R := slotR e) (g.recvC c) _ (g.read_recvC c e)) $$ Hw
  iintro Hw
  iapply Hk
  isplitl [Ha] <;> iassumption

/-! ### Stores -/

theorem put_s (e : Fin 4) {hl : sM.view.LoadsAt ((slotR e : Rect _)).toLoadRect} (w : (slotR e : Rect _).shape.Idx → Elt F .bf16) (hw : w = g.snd c e)
    {hx : (sM.access (slotR e)).Stores Finset.univ} {hm : Finset.univ = Finset.univ ∨ ∀ a, (slotR e : Rect _).stride a = 1} {k : PUnit → Prog (TpuEff nD τ sig (Elt F) Λ₀ .tc) α} :
    winAny c sM (slotR e) ⊢ iprop((win c sM (slotR e) (g.sendC c) -∗ wp frame (wpE (defs₀ (F := F)) 𝒱₀ c none) Set.univ (k ⟨⟩) Q)
      -∗ wp frame (wpE (defs₀ (F := F)) 𝒱₀ c none) Set.univ (.op (.load sM (slotR e : Rect _).toLoadRect hl) fun _ => .op (.store sM (slotR e) w Finset.univ hx hm) k) Q) :=
  put c (M := sM) (R := slotR e) (g.sendC c) _ (g.read_sendC c e) hw
theorem put_t (e : Fin 4) {hl : tM.view.LoadsAt ((backR e : Rect _)).toLoadRect} (w : (backR e : Rect _).shape.Idx → Elt F .bf16) (hw : w = g.rem c e)
    {hx : (tM.access (backR e)).Stores Finset.univ} {hm : Finset.univ = Finset.univ ∨ ∀ a, (backR e : Rect _).stride a = 1} {k : PUnit → Prog (TpuEff nD τ sig (Elt F) Λ₀ .tc) α} :
    winAny c tM (backR e) ⊢ iprop((win c tM (backR e) (g.backC c) -∗ wp frame (wpE (defs₀ (F := F)) 𝒱₀ c none) Set.univ (k ⟨⟩) Q)
      -∗ wp frame (wpE (defs₀ (F := F)) 𝒱₀ c none) Set.univ (.op (.load tM (backR e : Rect _).toLoadRect hl) fun _ => .op (.store tM (backR e) w Finset.univ hx hm) k) Q) :=
  put c (M := tM) (R := backR e) (g.backC c) _ (g.read_backC c e) hw
theorem put_f (e : Fin 4) {hl : fM.view.LoadsAt ((flatR ⟨e.val, by omega⟩ : Rect _)).toLoadRect} (w : (flatR ⟨e.val, by omega⟩ : Rect _).shape.Idx → Elt F .bf16) (hw : w = g.own c e)
    {hx : (fM.access (flatR ⟨e.val, by omega⟩)).Stores Finset.univ} {hm : Finset.univ = Finset.univ ∨ ∀ a, (flatR ⟨e.val, by omega⟩ : Rect _).stride a = 1} {k : PUnit → Prog (TpuEff nD τ sig (Elt F) Λ₀ .tc) α} :
    winAny c fM (flatR ⟨e.val, by omega⟩) ⊢ iprop((win c fM (flatR ⟨e.val, by omega⟩) (g.flatC c) -∗ wp frame (wpE (defs₀ (F := F)) 𝒱₀ c none) Set.univ (k ⟨⟩) Q)
      -∗ wp frame (wpE (defs₀ (F := F)) 𝒱₀ c none) Set.univ (.op (.load fM (flatR ⟨e.val, by omega⟩ : Rect _).toLoadRect hl) fun _ => .op (.store fM (flatR ⟨e.val, by omega⟩) w Finset.univ hx hm) k) Q) :=
  put c (M := fM) (R := flatR ⟨e.val, by omega⟩) (g.flatC c) _ ((g.read_flatC c ⟨e.val, by omega⟩).trans (g.rows_own c e)) hw
theorem put_o1 (j : Fin 8) {hl : oM.view.LoadsAt ((outR j : Rect _)).toLoadRect} (w : (outR j : Rect _).shape.Idx → Elt F .f32) (hw : w = g.o1 c j)
    {hx : (oM.access (outR j)).Stores Finset.univ} {hm : Finset.univ = Finset.univ ∨ ∀ a, (outR j : Rect _).stride a = 1} {k : PUnit → Prog (TpuEff nD τ sig (Elt F) Λ₀ .tc) α} :
    winAny c oM (outR j) ⊢ iprop((win c oM (outR j) (g.out1 c) -∗ wp frame (wpE (defs₀ (F := F)) 𝒱₀ c none) Set.univ (k ⟨⟩) Q)
      -∗ wp frame (wpE (defs₀ (F := F)) 𝒱₀ c none) Set.univ (.op (.load oM (outR j : Rect _).toLoadRect hl) fun _ => .op (.store oM (outR j) w Finset.univ hx hm) k) Q) :=
  put c (M := oM) (R := outR j) (g.out1 c) _ (Args.read_out (g.o1 c) j) hw
theorem put_o2 (j : Fin 8) {hl : oM.view.LoadsAt (outR j).toLoadRect} (w : (outR j).shape.Idx → Elt F .f32) (hw : w = g.o2 c j)
    {hx : (oM.access (outR j)).Stores Finset.univ} {hm : Finset.univ = Finset.univ ∨ ∀ a, (outR j).stride a = 1} {k : PUnit → Prog (TpuEff nD τ sig (Elt F) Λ₀ .tc) α} :
    win c oM (outR j) (g.out1 c) ⊢ iprop((win c oM (outR j) (g.out2 c) -∗ wp frame (wpE (defs₀ (F := F)) 𝒱₀ c none) Set.univ (k ⟨⟩) Q)
      -∗ wp frame (wpE (defs₀ (F := F)) 𝒱₀ c none) Set.univ (.op (.load oM (outR j).toLoadRect hl) fun _ => .op (.store oM (outR j) w Finset.univ hx hm) k) Q) := by
  refine BIBase.Entails.trans ?_ (put c (M := oM) (R := outR j) (g.out2 c) _ (Args.read_out (g.o2 c) j) hw)
  unfold winAny
  iintro H; iexists _; iexact H
theorem put_o3 (j : Fin 8) {hl : oM.view.LoadsAt (outR j).toLoadRect} (w : (outR j).shape.Idx → Elt F .f32) (hw : w = g.o3 c j)
    {hx : (oM.access (outR j)).Stores Finset.univ} {hm : Finset.univ = Finset.univ ∨ ∀ a, (outR j).stride a = 1} {k : PUnit → Prog (TpuEff nD τ sig (Elt F) Λ₀ .tc) α} :
    win c oM (outR j) (g.out2 c) ⊢ iprop((win c oM (outR j) (g.out3 c) -∗ wp frame (wpE (defs₀ (F := F)) 𝒱₀ c none) Set.univ (k ⟨⟩) Q)
      -∗ wp frame (wpE (defs₀ (F := F)) 𝒱₀ c none) Set.univ (.op (.load oM (outR j).toLoadRect hl) fun _ => .op (.store oM (outR j) w Finset.univ hx hm) k) Q) := by
  refine BIBase.Entails.trans ?_ (put c (M := oM) (R := outR j) (g.out3 c) _ (Args.read_out (g.o3 c) j) hw)
  unfold winAny
  iintro H; iexists _; iexact H

/-! ### Weights -/

theorem startA (s r : Fin 2) {src : Memref sig .tc .hbm S1024x2048 .f32} {dst : Memref sig .tc .vmem S1024x2048 .f32} {sm : SemLoc sig}
    {hsrc : src.view.WordExact} {hdst : dst.view.WordExact} {hsem : DmaTarget.Typed (nD := nD) .hbm sm (.here (p := (c : Thread nD τ).2) dst)}
    {k : PUnit → Prog (TpuEff nD τ sig (Elt F) Λ₀ .tc) α} (h1 : src = ASl (ex r s)) (h2 : dst = aSl s) (h3 : sm = osem (kA s)) :
    env g K ⊢ iprop(idleA g c s r -∗ (wt c (kA s) r.val -∗ wp frame (wpE (defs₀ (F := F)) 𝒱₀ c none) Set.univ (k ⟨⟩) Q)
      -∗ wp frame (wpE (defs₀ (F := F)) 𝒱₀ c none) Set.univ (.op (.enqueueDma src (.here dst) sm hsrc hdst hsem) k) Q) := by
  unfold env idleA wt
  iintro ⟨#HI, #Hlev⟩ ⟨Ha, Hr, Hd, Hs⟩ Hk
  iapply (fetchA g K c s r h1 h2 h3) $$ [Hr Hd Hs]
  · isplitr; · iexact HI
    isplitl [Hr]; · iexact Hr
    isplitl [Hd] <;> iassumption
  iintro Hc
  iapply Hk
  isplitl [Hc] <;> iassumption
theorem endA (s r : Fin 2) (O : CellTallies nD τ sig Unit) (hM : (levAts L lv : sProp 𝕄) ⊢ MayWait (c : Thread nD τ) (osem (kA s)) () O)
    {sp' : Space} {s₁ : Shape} {e₁ : EltTy} {sm : DmaSem sig} {src : Memref sig .tc sp' s₁ e₁}
    {hsrc : src.view.WordExact} {hdst : (aSl s).view.WordExact} {k : PUnit → Prog (TpuEff nD τ sig (Elt F) Λ₀ .tc) α}
    (hs : SemLoc.dma sm = osem (kA s)) :
    env g K ⊢ iprop(ow c O -∗ wt c (kA s) r.val -∗ ((ow c O ∗ fullA g c s r) -∗ wp frame (wpE (defs₀ (F := F)) 𝒱₀ c none) Set.univ (k ⟨⟩) Q)
      -∗ wp frame (wpE (defs₀ (F := F)) 𝒱₀ c none) Set.univ (.op (.waitDma2 sm src (aSl s) hsrc hdst) k) Q) := by
  unfold env fullA
  iintro ⟨#HI, #Hlev⟩ HO Hw Hk
  iapply (wait_dma g K c (kA s) r.val O (rnds_A s r) hM hs ((credit_a s).trans (amt_A s).symm)) $$ [HO Hw]
  · isplitr; · iexact HI
    isplitr; · iexact Hlev
    isplitl [HO] <;> iassumption
  iintro ⟨HO, Ha, Hr, Hp⟩
  ihave Hp' := (Entails.of_eq ((pay_A g c s r).trans (by unfold aPay; rfl))) $$ Hp
  iapply Hk
  isplitl [HO]; · iexact HO
  isplitl [Ha]; · iexact Ha
  isplitl [Hr]; · iexact Hr
  iexact Hp'
theorem startB (s r : Fin 2) {src : Memref sig .tc .hbm S2048x1024 .f32} {dst : Memref sig .tc .vmem S2048x1024 .f32} {sm : SemLoc sig}
    {hsrc : src.view.WordExact} {hdst : dst.view.WordExact} {hsem : DmaTarget.Typed (nD := nD) .hbm sm (.here (p := (c : Thread nD τ).2) dst)}
    {k : PUnit → Prog (TpuEff nD τ sig (Elt F) Λ₀ .tc) α} (h1 : src = BSl (ex r s)) (h2 : dst = bSl s) (h3 : sm = osem (kW s)) :
    env g K ⊢ iprop(idleB g c s r -∗ (wt c (kW s) r.val -∗ wp frame (wpE (defs₀ (F := F)) 𝒱₀ c none) Set.univ (k ⟨⟩) Q)
      -∗ wp frame (wpE (defs₀ (F := F)) 𝒱₀ c none) Set.univ (.op (.enqueueDma src (.here dst) sm hsrc hdst hsem) k) Q) := by
  unfold env idleB wt
  iintro ⟨#HI, #Hlev⟩ ⟨Ha, Hr, Hd, Hs⟩ Hk
  iapply (fetchB g K c s r h1 h2 h3) $$ [Hr Hd Hs]
  · isplitr; · iexact HI
    isplitl [Hr]; · iexact Hr
    isplitl [Hd] <;> iassumption
  iintro Hc
  iapply Hk
  isplitl [Hc] <;> iassumption
theorem endB (s r : Fin 2) (O : CellTallies nD τ sig Unit) (hM : (levAts L lv : sProp 𝕄) ⊢ MayWait (c : Thread nD τ) (osem (kW s)) () O)
    {sp' : Space} {s₁ : Shape} {e₁ : EltTy} {sm : DmaSem sig} {src : Memref sig .tc sp' s₁ e₁}
    {hsrc : src.view.WordExact} {hdst : (bSl s).view.WordExact} {k : PUnit → Prog (TpuEff nD τ sig (Elt F) Λ₀ .tc) α}
    (hs : SemLoc.dma sm = osem (kW s)) :
    env g K ⊢ iprop(ow c O -∗ wt c (kW s) r.val -∗ ((ow c O ∗ fullB g c s r) -∗ wp frame (wpE (defs₀ (F := F)) 𝒱₀ c none) Set.univ (k ⟨⟩) Q)
      -∗ wp frame (wpE (defs₀ (F := F)) 𝒱₀ c none) Set.univ (.op (.waitDma2 sm src (bSl s) hsrc hdst) k) Q) := by
  unfold env fullB
  iintro ⟨#HI, #Hlev⟩ HO Hw Hk
  iapply (wait_dma g K c (kW s) r.val O (rnds_W s r) hM hs ((credit_b s).trans (amt_W s).symm)) $$ [HO Hw]
  · isplitr; · iexact HI
    isplitr; · iexact Hlev
    isplitl [HO] <;> iassumption
  iintro ⟨HO, Ha, Hr, Hp⟩
  ihave Hp' := (Entails.of_eq ((pay_W g c s r).trans (by unfold bPay; rfl))) $$ Hp
  iapply Hk
  isplitl [HO]; · iexact HO
  isplitl [Ha]; · iexact Ha
  isplitl [Hr]; · iexact Hr
  iexact Hp'

/-! ### The exchange -/

theorem go1 (e : Fin 4) (p q : ℕ) (hp : p = 4 - e.val) (hq : q = 3 - e.val) {d : Dev nD} {src : Memref sig .tc .vmem S288x1024 .bf16} {dst : Memref sig (Dev.tc d : Thread nD τ).2.kind .vmem S288x1024 .bf16}
    {hsc : dst.view.ref.isScScratch = false} {sS sm : SemLoc sig}
    {hsrc : src.view.WordExact} {hdst : dst.view.WordExact} {hsem : DmaTarget.Typed .vmem sm (.remote (Dev.tc d : Thread nD τ) dst sS hsc)}
    {k : PUnit → Prog (TpuEff nD τ sig (Elt F) Λ₀ .tc) α}
    (hd : d = pr c) (h1 : src = sSl e) (h2 : dst = rSl e) (h3 : sS = osem (kS1 e)) (h4 : sm = osem (kR1 e)) :
    env g K ⊢ iprop(ow c (owe1 c p) -∗ win c sM (slotR e) (g.sendC c) -∗ sendT c e
      -∗ ((ow c (owe1 c q) ∗ wt c (kS1 e) 0) -∗ wp frame (wpE (defs₀ (F := F)) 𝒱₀ c none) Set.univ (k ⟨⟩) Q)
      -∗ wp frame (wpE (defs₀ (F := F)) 𝒱₀ c none) Set.univ (.op (.enqueueDma src (.remote (Dev.tc d) dst sS hsc) sm hsrc hdst hsem) k) Q) := by
  subst hp hq
  unfold env sendT wt
  iintro ⟨#HI, #Hlev⟩ HO Hs ⟨Hr, Hl, Ha⟩ Hk
  iapply (send1 g K c e hd h1 h2 h3 h4) $$ [HO Hs Hr Hl]
  · isplitr; · iexact HI
    isplitl [HO]; · iexact HO
    isplitl [Hs]; · iexact Hs
    isplitl [Hr] <;> iassumption
  iintro ⟨HO, Hc⟩
  iapply Hk
  isplitl [HO]; · iexact HO
  isplitl [Hc] <;> iassumption
theorem go2 (e : Fin 4) (p q : ℕ) (hp : p = 4 - e.val) (hq : q = 3 - e.val) {d : Dev nD} {src : Memref sig .tc .vmem S288x1024 .bf16} {dst : Memref sig (Dev.tc d : Thread nD τ).2.kind .vmem S288x1024 .bf16}
    {hsc : dst.view.ref.isScScratch = false} {sS sm : SemLoc sig}
    {hsrc : src.view.WordExact} {hdst : dst.view.WordExact} {hsem : DmaTarget.Typed .vmem sm (.remote (Dev.tc d : Thread nD τ) dst sS hsc)}
    {k : PUnit → Prog (TpuEff nD τ sig (Elt F) Λ₀ .tc) α}
    (hd : d = pr c) (h1 : src = tSl e) (h2 : dst = fSl (far e)) (h3 : sS = osem (kS2 e)) (h4 : sm = osem (kR2 e)) :
    env g K ⊢ iprop(ow c (owe2 c p) -∗ win c tM (backR e) (g.backC c) -∗ backT c e
      -∗ ((ow c (owe2 c q) ∗ wt c (kS2 e) 0) -∗ wp frame (wpE (defs₀ (F := F)) 𝒱₀ c none) Set.univ (k ⟨⟩) Q)
      -∗ wp frame (wpE (defs₀ (F := F)) 𝒱₀ c none) Set.univ (.op (.enqueueDma src (.remote (Dev.tc d) dst sS hsc) sm hsrc hdst hsem) k) Q) := by
  subst hp hq
  unfold env backT wt
  iintro ⟨#HI, #Hlev⟩ HO Hs ⟨Hr, Hl, Ha⟩ Hk
  iapply (send2 g K c e hd h1 h2 h3 h4) $$ [HO Hs Hr Hl]
  · isplitr; · iexact HI
    isplitl [HO]; · iexact HO
    isplitl [Hs]; · iexact Hs
    isplitl [Hr] <;> iassumption
  iintro ⟨HO, Hc⟩
  iapply Hk
  isplitl [HO]; · iexact HO
  isplitl [Hc] <;> iassumption
theorem waitS1 (e : Fin 4) (O : CellTallies nD τ sig Unit) (hM : (levAts L lv : sProp 𝕄) ⊢ MayWait (c : Thread nD τ) (osem (kS1 e)) () O)
    {sp' : Space} {s₁ : Shape} {e₁ : EltTy} {sm : DmaSem sig} {src : Memref sig .tc sp' s₁ e₁}
    {hsrc : src.view.WordExact} {hdst : (sSl e).view.WordExact} {k : PUnit → Prog (TpuEff nD τ sig (Elt F) Λ₀ .tc) α}
    (hs : SemLoc.dma sm = osem (kS1 e)) :
    env g K ⊢ iprop(ow c O -∗ wt c (kS1 e) 0 -∗ ((ow c O ∗ gotS1 g c e) -∗ wp frame (wpE (defs₀ (F := F)) 𝒱₀ c none) Set.univ (k ⟨⟩) Q)
      -∗ wp frame (wpE (defs₀ (F := F)) 𝒱₀ c none) Set.univ (.op (.waitDma2 sm src (sSl e) hsrc hdst) k) Q) := by
  unfold env gotS1
  iintro ⟨#HI, #Hlev⟩ HO Hw Hk
  iapply (wait_dma g K c (kS1 e) 0 O (rnds_pos _) hM hs ((credit_s e).trans (amt_S1 e).symm)) $$ [HO Hw]
  · isplitr; · iexact HI
    isplitr; · iexact Hlev
    isplitl [HO] <;> iassumption
  iintro ⟨HO, Ha, -, Hp⟩
  ihave Hp' := (Entails.of_eq ((pay_S1 g c e 0).trans (by unfold s1Pay; rfl))) $$ Hp
  iapply Hk
  isplitl [HO]; · iexact HO
  isplitl [Ha] <;> iassumption
theorem waitR1 (e : Fin 4) (O : CellTallies nD τ sig Unit) (hM : (levAts L lv : sProp 𝕄) ⊢ MayWait (c : Thread nD τ) (osem (kR1 e)) () O)
    {sp' : Space} {s₁ : Shape} {e₁ : EltTy} {sm : DmaSem sig} {src : Memref sig .tc sp' s₁ e₁}
    {hsrc : src.view.WordExact} {hdst : (rSl e).view.WordExact} {k : PUnit → Prog (TpuEff nD τ sig (Elt F) Λ₀ .tc) α}
    (hs : SemLoc.dma sm = osem (kR1 e)) :
    env g K ⊢ iprop(ow c O -∗ wt c (kR1 e) 0 -∗ ((ow c O ∗ gotR1 g c e) -∗ wp frame (wpE (defs₀ (F := F)) 𝒱₀ c none) Set.univ (k ⟨⟩) Q)
      -∗ wp frame (wpE (defs₀ (F := F)) 𝒱₀ c none) Set.univ (.op (.waitDma2 sm src (rSl e) hsrc hdst) k) Q) := by
  unfold env gotR1
  iintro ⟨#HI, #Hlev⟩ HO Hw Hk
  iapply (wait_dma g K c (kR1 e) 0 O (rnds_pos _) hM hs ((credit_r e).trans (amt_R1 e).symm)) $$ [HO Hw]
  · isplitr; · iexact HI
    isplitr; · iexact Hlev
    isplitl [HO] <;> iassumption
  iintro ⟨HO, Ha, -, Hp⟩
  ihave Hp' := (Entails.of_eq ((pay_R1 g c e 0).trans (by unfold r1Pay; rfl))) $$ Hp
  iapply Hk
  isplitl [HO]; · iexact HO
  isplitl [Ha] <;> iassumption
theorem waitS2 (e : Fin 4) (O : CellTallies nD τ sig Unit) (hM : (levAts L lv : sProp 𝕄) ⊢ MayWait (c : Thread nD τ) (osem (kS2 e)) () O)
    {sp' : Space} {s₁ : Shape} {e₁ : EltTy} {sm : DmaSem sig} {src : Memref sig .tc sp' s₁ e₁}
    {hsrc : src.view.WordExact} {hdst : (tSl e).view.WordExact} {k : PUnit → Prog (TpuEff nD τ sig (Elt F) Λ₀ .tc) α}
    (hs : SemLoc.dma sm = osem (kS2 e)) :
    env g K ⊢ iprop(ow c O -∗ wt c (kS2 e) 0 -∗ ((ow c O ∗ gotS2 g c e) -∗ wp frame (wpE (defs₀ (F := F)) 𝒱₀ c none) Set.univ (k ⟨⟩) Q)
      -∗ wp frame (wpE (defs₀ (F := F)) 𝒱₀ c none) Set.univ (.op (.waitDma2 sm src (tSl e) hsrc hdst) k) Q) := by
  unfold env gotS2
  iintro ⟨#HI, #Hlev⟩ HO Hw Hk
  iapply (wait_dma g K c (kS2 e) 0 O (rnds_pos _) hM hs ((credit_t e).trans (amt_S2 e).symm)) $$ [HO Hw]
  · isplitr; · iexact HI
    isplitr; · iexact Hlev
    isplitl [HO] <;> iassumption
  iintro ⟨HO, Ha, -, Hp⟩
  ihave Hp' := (Entails.of_eq ((pay_S2 g c e 0).trans (by unfold s2Pay; rfl))) $$ Hp
  iapply Hk
  isplitl [HO]; · iexact HO
  isplitl [Ha] <;> iassumption
theorem waitR2 (e : Fin 4) (O : CellTallies nD τ sig Unit) (hM : (levAts L lv : sProp 𝕄) ⊢ MayWait (c : Thread nD τ) (osem (kR2 e)) () O)
    {sp' : Space} {s₁ : Shape} {e₁ : EltTy} {sm : DmaSem sig} {src : Memref sig .tc sp' s₁ e₁}
    {hsrc : src.view.WordExact} {hdst : (fSl (far e)).view.WordExact} {k : PUnit → Prog (TpuEff nD τ sig (Elt F) Λ₀ .tc) α}
    (hs : SemLoc.dma sm = osem (kR2 e)) :
    env g K ⊢ iprop(ow c O -∗ wt c (kR2 e) 0 -∗ ((ow c O ∗ gotR2 g c e) -∗ wp frame (wpE (defs₀ (F := F)) 𝒱₀ c none) Set.univ (k ⟨⟩) Q)
      -∗ wp frame (wpE (defs₀ (F := F)) 𝒱₀ c none) Set.univ (.op (.waitDma2 sm src (fSl (far e)) hsrc hdst) k) Q) := by
  unfold env gotR2
  iintro ⟨#HI, #Hlev⟩ HO Hw Hk
  iapply (wait_dma g K c (kR2 e) 0 O (rnds_pos _) hM hs ((credit_f (far e)).trans (amt_R2 e).symm)) $$ [HO Hw]
  · isplitr; · iexact HI
    isplitr; · iexact Hlev
    isplitl [HO] <;> iassumption
  iintro ⟨HO, Ha, -, Hp⟩
  ihave Hp' := (Entails.of_eq ((pay_R2 g c e 0).trans (by unfold r2Pay; rfl))) $$ Hp
  iapply Hk
  isplitl [HO]; · iexact HO
  isplitl [Ha] <;> iassumption

theorem signal {d : Dev nD} (hd : d = pr c) {n : ℕ} (hn : n = 1) {k : PUnit → Prog (TpuEff nD τ sig (Elt F) Λ₀ .tc) α} :
    env g K ⊢ iprop(ow c (O₀ c) -∗ rdy (pr c) kB 0 -∗ barPay (pr c) -∗ (ow c (owe1 c 4) -∗ wp frame (wpE (defs₀ (F := F)) 𝒱₀ c none) Set.univ (k ⟨⟩) Q)
      -∗ wp frame (wpE (defs₀ (F := F)) 𝒱₀ c none) Set.univ (.op (.semSignal (Dev.tc d) barrier0 n) k) Q) := by
  unfold env
  iintro ⟨#HI, #Hlev⟩ HO Hr Hp Hk
  iapply (sig_bar g K c hd hn) $$ [HO Hr Hp]
  · isplitr; · iexact HI
    isplitl [HO]; · iexact HO
    isplitl [Hr] <;> iassumption
  iexact Hk
theorem await {n : ℕ} (hn : n = 1) {k : PUnit → Prog (TpuEff nD τ sig (Elt F) Λ₀ .tc) α} :
    env g K ⊢ iprop(ow c (owe1 c 4) -∗ wt c kB 0 -∗ ((ow c (owe1 c 4) ∗ atPos ER (cell c kB) 1 ∅ 0 ∗ barPay c) -∗ wp frame (wpE (defs₀ (F := F)) 𝒱₀ c none) Set.univ (k ⟨⟩) Q)
      -∗ wp frame (wpE (defs₀ (F := F)) 𝒱₀ c none) Set.univ (.op (.semWait barrier0 n) k) Q) := by
  unfold env
  iintro ⟨#HI, #Hlev⟩ HO Hw Hk
  iapply (wait_bar g K c hn) $$ [HO Hw]
  · isplitr; · iexact HI
    isplitr; · iexact Hlev
    isplitl [HO] <;> iassumption
  iexact Hk

end Moves

end Cert.Moe

end
-- ==== Proof.Joins.lean ====
/-
# Buffers and their blocks

A buffer held whole is its blocks held one by one; some blocks side by side are a larger block.
-/
module

public import proofs.«01_k».proof.Proof.Moves

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Blocks
variable {sp : Space} {s : Shape} {e : EltTy} {T : Type} [Fintype T] (M : Memref sig .tc sp s e) (c : Dev nD)
  (f : Buf (Elt F) (M.view.loc (c : Thread nD τ))) (R : T → Rect s)

/-- A block made of smaller ones. -/
theorem win_parts (R₀ : Rect s) (hd : ∀ t t', t ≠ t' → Disjoint (R t).set (R t').set) (hc : ∀ i, i ∈ R₀.set ↔ ∃ t, i ∈ (R t).set) :
    (win c M R₀ f : sProp 𝕄) = bigSep Finset.univ fun t => win c M (R t) f := by
  classical
  unfold win
  have h : (M.access R₀).set = (Finset.univ : Finset T).biUnion fun t => (M.access (R t)).set := by
    ext i
    rw [View.set_slice, Finset.mem_map, Finset.mem_biUnion]
    constructor
    · rintro ⟨x, hx, rfl⟩
      obtain ⟨t, ht⟩ := (hc x).mp hx
      exact ⟨t, Finset.mem_univ _, by rw [View.set_slice]; exact Finset.mem_map_of_mem _ ht⟩
    · rintro ⟨t, -, hi⟩
      rw [View.set_slice, Finset.mem_map] at hi
      obtain ⟨x, hx, rfl⟩ := hi
      exact ⟨x, (hc x).mpr ⟨t, hx⟩, rfl⟩
  rw [h]
  exact pointsTo_biUnion _ _ fun t _ t' _ htt => by
    rw [View.set_slice, View.set_slice]; exact (Finset.disjoint_map _).mpr (hd t t' htt)

/-- A whole buffer made of blocks. -/
theorem whole_parts (hM : M.view.set = Finset.univ) (hd : ∀ t t', t ≠ t' → Disjoint (R t).set (R t').set) (hc : ∀ i, ∃ t, i ∈ (R t).set) :
    (M.view.loc (c : Thread nD τ) ↦{fullShare} f : sProp 𝕄) = bigSep Finset.univ fun t => win c M (R t) f := by
  classical
  unfold win
  have h : (Finset.univ : Finset (Idx (M.view.loc (c : Thread nD τ)))) = (Finset.univ : Finset T).biUnion fun t => (M.access (R t)).set := by
    refine (Finset.eq_univ_iff_forall.mpr fun i => ?_).symm
    have hi : i ∈ M.view.set := hM ▸ Finset.mem_univ i
    rw [View.set, Finset.mem_map] at hi
    obtain ⟨x, -, rfl⟩ := hi
    obtain ⟨t, ht⟩ := hc x
    exact Finset.mem_biUnion.mpr ⟨t, Finset.mem_univ _, by rw [View.set_slice]; exact Finset.mem_map_of_mem _ ht⟩
  rw [h]
  exact pointsTo_biUnion _ _ fun t _ t' _ htt => by
    rw [View.set_slice, View.set_slice]; exact (Finset.disjoint_map _).mpr (hd t t' htt)

end Blocks

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section Sets

theorem slotR_disj (t t' : Fin 4) (h : t ≠ t') : Disjoint (slotR t).set (slotR t').set :=
  Rect.unit_disjoint 0 (by
    have h' : t.val ≠ t'.val := fun h' => h (Fin.ext h')
    show t.val + 1 ≤ t'.val ∨ t'.val + 1 ≤ t.val
    omega)
theorem slotR_mem (t : Fin 4) (i : S4x288x1024.Idx) : i ∈ (slotR t).set ↔ (i 0).val = t.val := by
  rw [Rect.mem_set_unit]
  have b0 : (i 0).val < 4 := (i 0).isLt
  constructor
  · intro h
    have h0 : t.val ≤ (i 0).val ∧ (i 0).val < t.val + 1 := h 0
    omega
  · intro h a
    fin_cases a
    · show t.val ≤ (i 0).val ∧ (i 0).val < t.val + 1
      omega
    · exact ⟨Nat.zero_le _, by show (i 1).val < 0 + 288; have h' : (i 1).val < 288 := (i 1).isLt; omega⟩
    · exact ⟨Nat.zero_le _, by show (i 2).val < 0 + 1024; have h' : (i 2).val < 1024 := (i 2).isLt; omega⟩
theorem slotR_cover (i : S4x288x1024.Idx) : ∃ t, i ∈ (slotR t).set :=
  ⟨⟨(i 0).val, by have h : (i 0).val < 4 := (i 0).isLt; omega⟩, (slotR_mem _ i).mpr rfl⟩
theorem aR_disj (t t' : Fin 2) (h : t ≠ t') : Disjoint (aR t).set (aR t').set :=
  Rect.unit_disjoint 0 (by
    have h' : t.val ≠ t'.val := fun h' => h (Fin.ext h')
    show t.val + 1 ≤ t'.val ∨ t'.val + 1 ≤ t.val
    omega)
theorem aR_mem (t : Fin 2) (i : S2x1024x2048.Idx) : i ∈ (aR t).set ↔ (i 0).val = t.val := by
  rw [Rect.mem_set_unit]
  have b0 : (i 0).val < 2 := (i 0).isLt
  constructor
  · intro h
    have h0 : t.val ≤ (i 0).val ∧ (i 0).val < t.val + 1 := h 0
    omega
  · intro h a
    fin_cases a
    · show t.val ≤ (i 0).val ∧ (i 0).val < t.val + 1
      omega
    · exact ⟨Nat.zero_le _, by show (i 1).val < 0 + 1024; have h' : (i 1).val < 1024 := (i 1).isLt; omega⟩
    · exact ⟨Nat.zero_le _, by show (i 2).val < 0 + 2048; have h' : (i 2).val < 2048 := (i 2).isLt; omega⟩
theorem aR_cover (i : S2x1024x2048.Idx) : ∃ t, i ∈ (aR t).set :=
  ⟨⟨(i 0).val, by have h : (i 0).val < 2 := (i 0).isLt; omega⟩, (aR_mem _ i).mpr rfl⟩
theorem bR_disj (t t' : Fin 2) (h : t ≠ t') : Disjoint (bR t).set (bR t').set :=
  Rect.unit_disjoint 0 (by
    have h' : t.val ≠ t'.val := fun h' => h (Fin.ext h')
    show t.val + 1 ≤ t'.val ∨ t'.val + 1 ≤ t.val
    omega)
theorem bR_mem (t : Fin 2) (i : S2x2048x1024.Idx) : i ∈ (bR t).set ↔ (i 0).val = t.val := by
  rw [Rect.mem_set_unit]
  have b0 : (i 0).val < 2 := (i 0).isLt
  constructor
  · intro h
    have h0 : t.val ≤ (i 0).val ∧ (i 0).val < t.val + 1 := h 0
    omega
  · intro h a
    fin_cases a
    · show t.val ≤ (i 0).val ∧ (i 0).val < t.val + 1
      omega
    · exact ⟨Nat.zero_le _, by show (i 1).val < 0 + 2048; have h' : (i 1).val < 2048 := (i 1).isLt; omega⟩
    · exact ⟨Nat.zero_le _, by show (i 2).val < 0 + 1024; have h' : (i 2).val < 1024 := (i 2).isLt; omega⟩
theorem bR_cover (i : S2x2048x1024.Idx) : ∃ t, i ∈ (bR t).set :=
  ⟨⟨(i 0).val, by have h : (i 0).val < 2 := (i 0).isLt; omega⟩, (bR_mem _ i).mpr rfl⟩
theorem AR_disj (t t' : Fin 4) (h : t ≠ t') : Disjoint (AR t).set (AR t').set :=
  Rect.unit_disjoint 0 (by
    have h' : t.val ≠ t'.val := fun h' => h (Fin.ext h')
    show t.val + 1 ≤ t'.val ∨ t'.val + 1 ≤ t.val
    omega)
theorem AR_mem (t : Fin 4) (i : S4x1024x2048.Idx) : i ∈ (AR t).set ↔ (i 0).val = t.val := by
  rw [Rect.mem_set_unit]
  have b0 : (i 0).val < 4 := (i 0).isLt
  constructor
  · intro h
    have h0 : t.val ≤ (i 0).val ∧ (i 0).val < t.val + 1 := h 0
    omega
  · intro h a
    fin_cases a
    · show t.val ≤ (i 0).val ∧ (i 0).val < t.val + 1
      omega
    · exact ⟨Nat.zero_le _, by show (i 1).val < 0 + 1024; have h' : (i 1).val < 1024 := (i 1).isLt; omega⟩
    · exact ⟨Nat.zero_le _, by show (i 2).val < 0 + 2048; have h' : (i 2).val < 2048 := (i 2).isLt; omega⟩
theorem AR_cover (i : S4x1024x2048.Idx) : ∃ t, i ∈ (AR t).set :=
  ⟨⟨(i 0).val, by have h : (i 0).val < 4 := (i 0).isLt; omega⟩, (AR_mem _ i).mpr rfl⟩
theorem BR_disj (t t' : Fin 4) (h : t ≠ t') : Disjoint (BR t).set (BR t').set :=
  Rect.unit_disjoint 0 (by
    have h' : t.val ≠ t'.val := fun h' => h (Fin.ext h')
    show t.val + 1 ≤ t'.val ∨ t'.val + 1 ≤ t.val
    omega)
theorem BR_mem (t : Fin 4) (i : S4x2048x1024.Idx) : i ∈ (BR t).set ↔ (i 0).val = t.val := by
  rw [Rect.mem_set_unit]
  have b0 : (i 0).val < 4 := (i 0).isLt
  constructor
  · intro h
    have h0 : t.val ≤ (i 0).val ∧ (i 0).val < t.val + 1 := h 0
    omega
  · intro h a
    fin_cases a
    · show t.val ≤ (i 0).val ∧ (i 0).val < t.val + 1
      omega
    · exact ⟨Nat.zero_le _, by show (i 1).val < 0 + 2048; have h' : (i 1).val < 2048 := (i 1).isLt; omega⟩
    · exact ⟨Nat.zero_le _, by show (i 2).val < 0 + 1024; have h' : (i 2).val < 1024 := (i 2).isLt; omega⟩
theorem BR_cover (i : S4x2048x1024.Idx) : ∃ t, i ∈ (BR t).set :=
  ⟨⟨(i 0).val, by have h : (i 0).val < 4 := (i 0).isLt; omega⟩, (BR_mem _ i).mpr rfl⟩
theorem flatR_disj (t t' : Fin 8) (h : t ≠ t') : Disjoint (flatR t).set (flatR t').set :=
  Rect.unit_disjoint 0 (by
    have h' : t.val ≠ t'.val := fun h' => h (Fin.ext h')
    show 288 * t.val + 288 ≤ 288 * t'.val ∨ 288 * t'.val + 288 ≤ 288 * t.val
    omega)
theorem flatR_mem (t : Fin 8) (i : S2304x1024.Idx) : i ∈ (flatR t).set ↔ (i 0).val / 288 = t.val := by
  rw [Rect.mem_set_unit]
  have b0 : (i 0).val < 2304 := (i 0).isLt
  constructor
  · intro h
    have h0 : 288 * t.val ≤ (i 0).val ∧ (i 0).val < 288 * t.val + 288 := h 0
    omega
  · intro h a
    fin_cases a
    · show 288 * t.val ≤ (i 0).val ∧ (i 0).val < 288 * t.val + 288
      omega
    · exact ⟨Nat.zero_le _, by show (i 1).val < 0 + 1024; have h' : (i 1).val < 1024 := (i 1).isLt; omega⟩
theorem flatR_cover (i : S2304x1024.Idx) : ∃ t, i ∈ (flatR t).set :=
  ⟨⟨(i 0).val / 288, by have h : (i 0).val < 2304 := (i 0).isLt; omega⟩, (flatR_mem _ i).mpr rfl⟩
theorem backR_disj (t t' : Fin 4) (h : t ≠ t') : Disjoint (backR t).set (backR t').set :=
  Rect.unit_disjoint 0 (by
    have h' : t.val ≠ t'.val := fun h' => h (Fin.ext h')
    show 288 * t.val + 288 ≤ 288 * t'.val ∨ 288 * t'.val + 288 ≤ 288 * t.val
    omega)
theorem backR_mem (t : Fin 4) (i : S1152x1024.Idx) : i ∈ (backR t).set ↔ (i 0).val / 288 = t.val := by
  rw [Rect.mem_set_unit]
  have b0 : (i 0).val < 1152 := (i 0).isLt
  constructor
  · intro h
    have h0 : 288 * t.val ≤ (i 0).val ∧ (i 0).val < 288 * t.val + 288 := h 0
    omega
  · intro h a
    fin_cases a
    · show 288 * t.val ≤ (i 0).val ∧ (i 0).val < 288 * t.val + 288
      omega
    · exact ⟨Nat.zero_le _, by show (i 1).val < 0 + 1024; have h' : (i 1).val < 1024 := (i 1).isLt; omega⟩
theorem backR_cover (i : S1152x1024.Idx) : ∃ t, i ∈ (backR t).set :=
  ⟨⟨(i 0).val / 288, by have h : (i 0).val < 1152 := (i 0).isLt; omega⟩, (backR_mem _ i).mpr rfl⟩
theorem outR_disj (t t' : Fin 8) (h : t ≠ t') : Disjoint (outR t).set (outR t').set :=
  Rect.unit_disjoint 0 (by
    have h' : t.val ≠ t'.val := fun h' => h (Fin.ext h')
    show 256 * t.val + 256 ≤ 256 * t'.val ∨ 256 * t'.val + 256 ≤ 256 * t.val
    omega)
theorem outR_mem (t : Fin 8) (i : S2048x1024.Idx) : i ∈ (outR t).set ↔ (i 0).val / 256 = t.val := by
  rw [Rect.mem_set_unit]
  have b0 : (i 0).val < 2048 := (i 0).isLt
  constructor
  · intro h
    have h0 : 256 * t.val ≤ (i 0).val ∧ (i 0).val < 256 * t.val + 256 := h 0
    omega
  · intro h a
    fin_cases a
    · show 256 * t.val ≤ (i 0).val ∧ (i 0).val < 256 * t.val + 256
      omega
    · exact ⟨Nat.zero_le _, by show (i 1).val < 0 + 1024; have h' : (i 1).val < 1024 := (i 1).isLt; omega⟩
theorem outR_cover (i : S2048x1024.Idx) : ∃ t, i ∈ (outR t).set :=
  ⟨⟨(i 0).val / 256, by have h : (i 0).val < 2048 := (i 0).isLt; omega⟩, (outR_mem _ i).mpr rfl⟩
theorem lowR_mem (i : S2304x1024.Idx) : i ∈ lowR.set ↔ 0 ≤ (i 0).val ∧ (i 0).val < 1152 := by
  rw [Rect.mem_set_unit]
  constructor
  · intro h
    exact h 0
  · intro h a
    fin_cases a
    · exact h
    · exact ⟨Nat.zero_le _, by show (i 1).val < 0 + 1024; have h' : (i 1).val < 1024 := (i 1).isLt; omega⟩
theorem midR_mem (i : S2304x1024.Idx) : i ∈ midR.set ↔ 1152 ≤ (i 0).val ∧ (i 0).val < 1728 := by
  rw [Rect.mem_set_unit]
  constructor
  · intro h
    exact h 0
  · intro h a
    fin_cases a
    · exact h
    · exact ⟨Nat.zero_le _, by show (i 1).val < 0 + 1024; have h' : (i 1).val < 1024 := (i 1).isLt; omega⟩
theorem topR_mem (i : S2304x1024.Idx) : i ∈ topR.set ↔ 1728 ≤ (i 0).val ∧ (i 0).val < 2304 := by
  rw [Rect.mem_set_unit]
  constructor
  · intro h
    exact h 0
  · intro h a
    fin_cases a
    · exact h
    · exact ⟨Nat.zero_le _, by show (i 1).val < 0 + 1024; have h' : (i 1).val < 1024 := (i 1).isLt; omega⟩

/-- The three stretches of the flat buffer. -/
abbrev third : Fin 3 → Rect S2304x1024
  | 0 => lowR
  | 1 => midR
  | 2 => topR
theorem third_mem (t : Fin 3) (i : S2304x1024.Idx) : i ∈ (third t).set ↔ (if (i 0).val < 1152 then 0 else if (i 0).val < 1728 then 1 else 2) = t := by
  have b0 : (i 0).val < 2304 := (i 0).isLt
  fin_cases t
  · refine (lowR_mem i).trans ?_
    show _ ↔ _ = (0 : Fin 3)
    split_ifs <;> simp <;> omega
  · refine (midR_mem i).trans ?_
    show _ ↔ _ = (1 : Fin 3)
    split_ifs <;> simp <;> omega
  · refine (topR_mem i).trans ?_
    show _ ↔ _ = (2 : Fin 3)
    split_ifs <;> simp <;> omega
theorem third_disj (t t' : Fin 3) (h : t ≠ t') : Disjoint (third t).set (third t').set :=
  Finset.disjoint_left.mpr fun i hi hi' => h (((third_mem t i).mp hi).symm.trans ((third_mem t' i).mp hi'))
theorem third_cover (i : S2304x1024.Idx) : ∃ t, i ∈ (third t).set := ⟨_, (third_mem _ i).mpr rfl⟩

end Sets

section Whole
variable (c : Dev nD)

theorem slots_eq (M : Memref sig .tc .vmem S4x288x1024 .bf16) (hM : M.view.set = Finset.univ) (f) :
    (M.view.loc (c : Thread nD τ) ↦{fullShare} f : sProp 𝕄) = iprop(win c M (slotR 0) f ∗ win c M (slotR 1) f ∗ win c M (slotR 2) f ∗ win c M (slotR 3) f) := by
  rw [whole_parts M c f slotR hM slotR_disj slotR_cover, bigSep_four]
theorem flat_eq (f) : (fM.view.loc (c : Thread nD τ) ↦{fullShare} f : sProp 𝕄)
    = iprop(win c fM (flatR 0) f ∗ win c fM (flatR 1) f ∗ win c fM (flatR 2) f ∗ win c fM (flatR 3) f
      ∗ win c fM (flatR 4) f ∗ win c fM (flatR 5) f ∗ win c fM (flatR 6) f ∗ win c fM (flatR 7) f) := by
  rw [whole_parts fM c f flatR (by exact View.set_whole _) flatR_disj flatR_cover, bigSep_eight]
theorem thirds_eq (f) : (fM.view.loc (c : Thread nD τ) ↦{fullShare} f : sProp 𝕄)
    = iprop(win c fM lowR f ∗ win c fM midR f ∗ win c fM topR f) := by
  rw [whole_parts fM c f third (by exact View.set_whole _) third_disj third_cover, bigSep_three]
theorem back_eq (f) : (tM.view.loc (c : Thread nD τ) ↦{fullShare} f : sProp 𝕄)
    = iprop(win c tM (backR 0) f ∗ win c tM (backR 1) f ∗ win c tM (backR 2) f ∗ win c tM (backR 3) f) := by
  rw [whole_parts tM c f backR (by exact View.set_whole _) backR_disj backR_cover, bigSep_four]
theorem out_eq (f) : (oM.view.loc (c : Thread nD τ) ↦{fullShare} f : sProp 𝕄)
    = iprop(win c oM (outR 0) f ∗ win c oM (outR 1) f ∗ win c oM (outR 2) f ∗ win c oM (outR 3) f
      ∗ win c oM (outR 4) f ∗ win c oM (outR 5) f ∗ win c oM (outR 6) f ∗ win c oM (outR 7) f) := by
  rw [whole_parts oM c f outR (by exact View.set_whole _) outR_disj outR_cover, bigSep_eight]
theorem a_eq (f) : (aM.view.loc (c : Thread nD τ) ↦{fullShare} f : sProp 𝕄) = iprop(win c aM (aR 0) f ∗ win c aM (aR 1) f) := by
  rw [whole_parts aM c f aR (by exact View.set_whole _) aR_disj aR_cover, bigSep_two]
theorem b_eq (f) : (bM.view.loc (c : Thread nD τ) ↦{fullShare} f : sProp 𝕄) = iprop(win c bM (bR 0) f ∗ win c bM (bR 1) f) := by
  rw [whole_parts bM c f bR (by exact View.set_whole _) bR_disj bR_cover, bigSep_two]
theorem A_eq (f) : (AM.view.loc (c : Thread nD τ) ↦{fullShare} f : sProp 𝕄)
    = iprop(win c AM (AR 0) f ∗ win c AM (AR 1) f ∗ win c AM (AR 2) f ∗ win c AM (AR 3) f) := by
  rw [whole_parts AM c f AR (by exact View.set_whole _) AR_disj AR_cover, bigSep_four]
theorem B_eq (f) : (BM.view.loc (c : Thread nD τ) ↦{fullShare} f : sProp 𝕄)
    = iprop(win c BM (BR 0) f ∗ win c BM (BR 1) f ∗ win c BM (BR 2) f ∗ win c BM (BR 3) f) := by
  rw [whole_parts BM c f BR (by exact View.set_whole _) BR_disj BR_cover, bigSep_four]

theorem low_eq (f) : (win c fM lowR f : sProp 𝕄)
    = iprop(win c fM (flatR 0) f ∗ win c fM (flatR 1) f ∗ win c fM (flatR 2) f ∗ win c fM (flatR 3) f) := by
  rw [win_parts fM c f (fun t : Fin 4 => flatR ⟨t.val, by omega⟩) lowR
    (fun t t' h => flatR_disj _ _ fun h' => h (Fin.ext (congrArg Fin.val h' :)))
    (fun i => by
      have b0 : (i 0).val < 2304 := (i 0).isLt
      rw [lowR_mem]
      constructor
      · intro h
        exact ⟨⟨(i 0).val / 288, by omega⟩, (flatR_mem _ i).mpr rfl⟩
      · rintro ⟨t, ht⟩
        have := (flatR_mem _ i).mp ht
        have : (i 0).val / 288 = t.val := this
        omega), bigSep_four]
  rfl
theorem mid_eq (f) : (win c fM midR f : sProp 𝕄) = iprop(win c fM (flatR 4) f ∗ win c fM (flatR 5) f) := by
  rw [win_parts fM c f (fun t : Fin 2 => flatR ⟨t.val + 4, by omega⟩) midR
    (fun t t' h => flatR_disj _ _ fun h' => h (Fin.ext (by have := congrArg Fin.val h'; simpa using this)))
    (fun i => by
      have b0 : (i 0).val < 2304 := (i 0).isLt
      rw [midR_mem]
      constructor
      · intro h
        exact ⟨⟨(i 0).val / 288 - 4, by omega⟩, (flatR_mem _ i).mpr (by show (i 0).val / 288 = (i 0).val / 288 - 4 + 4; omega)⟩
      · rintro ⟨t, ht⟩
        have := (flatR_mem _ i).mp ht
        have : (i 0).val / 288 = t.val + 4 := this
        omega), bigSep_two]
  rfl
theorem top_eq (f) : (win c fM topR f : sProp 𝕄) = iprop(win c fM (flatR 6) f ∗ win c fM (flatR 7) f) := by
  rw [win_parts fM c f (fun t : Fin 2 => flatR ⟨t.val + 6, by omega⟩) topR
    (fun t t' h => flatR_disj _ _ fun h' => h (Fin.ext (by have := congrArg Fin.val h'; simpa using this)))
    (fun i => by
      have b0 : (i 0).val < 2304 := (i 0).isLt
      rw [topR_mem]
      constructor
      · intro h
        exact ⟨⟨(i 0).val / 288 - 6, by omega⟩, (flatR_mem _ i).mpr (by show (i 0).val / 288 = (i 0).val / 288 - 6 + 6; omega)⟩
      · rintro ⟨t, ht⟩
        have := (flatR_mem _ i).mp ht
        have : (i 0).val / 288 = t.val + 6 := this
        omega), bigSep_two]
  rfl

end Whole

section Joins
variable (g : Args F) (K : GSem nD τ sig → ℕ) (c : Dev nD)

theorem join_low : win c fM (flatR 0) (g.flatC c) ⊢ iprop(win c fM (flatR 1) (g.flatC c) -∗ win c fM (flatR 2) (g.flatC c)
    -∗ win c fM (flatR 3) (g.flatC c) -∗ win c fM lowR (g.flatC c) : sProp 𝕄) := by
  rw [low_eq]
  iintro H0 H1 H2 H3
  isplitl [H0]; · iexact H0
  isplitl [H1]; · iexact H1
  isplitl [H2] <;> iassumption
theorem join_mid : gotR2 g c 0 ⊢ iprop(gotR2 g c 1 -∗ (win c fM midR (g.flatC c) ∗ atPos ER (cell c (kR2 0)) 1 ∅ 0 ∗ atPos ER (cell c (kR2 1)) 1 ∅ 0) : sProp 𝕄) := by
  unfold gotR2
  rw [mid_eq]
  iintro ⟨Ha, H0⟩ ⟨Hb, H1⟩
  isplitl [H0 H1]
  · isplitl [H0]
    · iexact H0
    · iexact H1
  isplitl [Ha] <;> iassumption
theorem join_top : gotR2 g c 2 ⊢ iprop(gotR2 g c 3 -∗ (win c fM topR (g.flatC c) ∗ atPos ER (cell c (kR2 2)) 1 ∅ 0 ∗ atPos ER (cell c (kR2 3)) 1 ∅ 0) : sProp 𝕄) := by
  unfold gotR2
  rw [top_eq]
  iintro ⟨Ha, H0⟩ ⟨Hb, H1⟩
  isplitl [H0 H1]
  · isplitl [H0]
    · iexact H0
    · iexact H1
  isplitl [Ha] <;> iassumption

/-- Nothing owed, a device may wait. -/
theorem mayWaitN (sm : SemLoc sig) (h : lvS sm ≤ 3) : (levAts L lv : sProp 𝕄) ⊢ MayWait (c : Thread nD τ) sm () (owe2 c 0) :=
  mayWait c sm _ 3 h fun q u h => absurd h (Nat.lt_irrefl 0)

/-- Every bucket sent, the rows are still to send back. -/
theorem all_sent : ow c (owe1 c 0) ⊢ (ow c (owe2 c 4) : sProp 𝕄) := by iintro H; iexact H

end Joins

end Cert.Moe

end
-- ==== Proof.PartsA.lean ====
/-
# The first half of the body

From the first transfers to the last rows computed for the partner, as the printed program is cut.
-/
module

public import proofs.«01_k».proof.Proof.Joins
public import proofs.«01_k».proof.Proof.Gen.KernelIdeal.Skeleton

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (g : Args F) (K : GSem nD τ sig → ℕ) (c : Dev nD)

theorem run1 {Q : _ → sProp (MT nD τ sig Unit (Elt F) ℕ UU ℕ)} :
    env g K ⊢ iprop(idleA g c 0 0 -∗ idleB g c 0 0 -∗ ow c (O₀ c) -∗ rdy (pr c) kB 0 -∗ barPay (pr c) -∗ wt c kB 0 -∗ keyB g c -∗
      ((wt c (kA 0) ((0 : Fin 2).val) ∗ wt c (kW 0) ((0 : Fin 2).val) ∗ ow c (owe1 c 4) ∗ atPos ER (cell c kB) 1 ∅ 0 ∗ barPay c ∗ keyB g c) -∗ Q ⟨c, Scalar.remsi (Scalar.divsi (Dev.word c) 1#32) 2#32, Scalar.subi 1#32 (Scalar.remsi (Scalar.divsi (Dev.word c) 2#32) 2#32), k0_pay2 (g.k c)⟩)
      -∗ wp frame (wpE (defs₀ (F := F)) 𝒱₀ c none) Set.univ (k0_part1 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part1_eq_skeleton]; unfold k0_part1_skel
  simp only [semSignalWord, semWaitWord, Prog.lift, Prog.bind_op, Prog.bind_ret, Prog.pure_eq_ret, wp_deviceId]
  iintro #Henv HiA_00 HiB_00 How Hbrd Hbpp Hbw Hkey Hk
  iapply (startA g K c 0 0 rfl rfl rfl) $$ Henv HiA_00
  iintro HwA_00
  iapply (startB g K c 0 0 rfl rfl rfl) $$ Henv HiB_00
  iintro HwB_00
  iapply (signal g K c (dev1_eq c) rfl) $$ Henv How Hbrd Hbpp
  iintro How
  iapply (await g K c rfl) $$ Henv How Hbw
  iintro ⟨How, Hbat, Hbp⟩
  iapply (ld_key g c) $$ Hkey
  iintro Hkey
  rw [wp_ret]; imodintro
  iapply Hk
  isplitl [HwA_00]; · iexact HwA_00
  isplitl [HwB_00]; · iexact HwB_00
  isplitl [How]; · iexact How
  isplitl [Hbat]; · iexact Hbat
  isplitl [Hbp]; · iexact Hbp
  iexact Hkey

theorem run2 (v5 v6 : BitVec 32) {Q : _ → sProp (MT nD τ sig Unit (Elt F) ℕ UU ℕ)} :
    env g K ⊢ iprop(xB g c -∗ winAny c sM (slotR 0) -∗ ow c (owe1 c 4) -∗ sendT c 0 -∗ keyB g c -∗
      ((ow c (owe1 c 3) ∗ wt c (kS1 0) 0 ∗ keyB g c ∗ xB g c) -∗ Q ⟨k0_pay4 (g.k c), k0_pay5 (g.x c)⟩)
      -∗ wp frame (wpE (defs₀ (F := F)) 𝒱₀ c none) Set.univ (k0_part2 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6 (k0_pay2 (g.k c))) Q) := by
  rw [k0_part2_eq_skeleton]; unfold k0_part2_skel
  simp only [semSignalWord, semWaitWord, Prog.lift, Prog.bind_op, Prog.bind_ret, Prog.pure_eq_ret, wp_deviceId]
  iintro #Henv Hx Hs_0 How HsT_0 Hkey Hk
  iapply (ld_x g c) $$ Hx
  iintro Hx
  iapply (put_s g c 0 (k0_pay3 (k0_pay2 (g.k c)) (g.x c)) (rfl)) $$ Hs_0
  iintro HS_0
  iapply (go1 g K c 0 4 3 rfl rfl (dev2_eq c) rfl rfl rfl rfl) $$ Henv How HS_0 HsT_0
  iintro ⟨How, Hw1_0⟩
  iapply (ld_key g c) $$ Hkey
  iintro Hkey
  iapply (ld_x g c) $$ Hx
  iintro Hx
  rw [wp_ret]; imodintro
  iapply Hk
  isplitl [How]; · iexact How
  isplitl [Hw1_0]; · iexact Hw1_0
  isplitl [Hkey]; · iexact Hkey
  iexact Hx

theorem run3 (v5 v6 : BitVec 32) {Q : _ → sProp (MT nD τ sig Unit (Elt F) ℕ UU ℕ)} :
    env g K ⊢ iprop(winAny c sM (slotR 1) -∗ ow c (owe1 c 3) -∗ sendT c 1 -∗ keyB g c -∗ xB g c -∗ winAny c sM (slotR 2) -∗
      ((ow c (owe1 c 2) ∗ wt c (kS1 1) 0 ∗ keyB g c ∗ xB g c ∗ win c sM (slotR 2) (g.sendC c)) -∗ Q ⟨⟩)
      -∗ wp frame (wpE (defs₀ (F := F)) 𝒱₀ c none) Set.univ (k0_part3 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6 (k0_pay4 (g.k c)) (k0_pay5 (g.x c))) Q) := by
  rw [k0_part3_eq_skeleton]; unfold k0_part3_skel
  simp only [semSignalWord, semWaitWord, Prog.lift, Prog.bind_op, Prog.bind_ret, Prog.pure_eq_ret, wp_deviceId]
  iintro #Henv Hs_1 How HsT_1 Hkey Hx Hs_2 Hk
  iapply (put_s g c 1 (k0_pay6 (k0_pay4 (g.k c)) (k0_pay5 (g.x c))) (rfl)) $$ Hs_1
  iintro HS_1
  iapply (go1 g K c 1 3 2 rfl rfl (dev3_eq c) rfl rfl rfl rfl) $$ Henv How HS_1 HsT_1
  iintro ⟨How, Hw1_1⟩
  iapply (ld_key g c) $$ Hkey
  iintro Hkey
  iapply (ld_x g c) $$ Hx
  iintro Hx
  iapply (put_s g c 2 (k0_pay7 (g.k c) (g.x c)) (rfl)) $$ Hs_2
  iintro HS_2
  rw [wp_ret]; imodintro
  iapply Hk
  isplitl [How]; · iexact How
  isplitl [Hw1_1]; · iexact Hw1_1
  isplitl [Hkey]; · iexact Hkey
  isplitl [Hx]; · iexact Hx
  iexact HS_2

theorem run4 (v5 v6 : BitVec 32) {Q : _ → sProp (MT nD τ sig Unit (Elt F) ℕ UU ℕ)} :
    env g K ⊢ iprop(ow c (owe1 c 2) -∗ win c sM (slotR 2) (g.sendC c) -∗ sendT c 2 -∗ keyB g c -∗ xB g c -∗ winAny c sM (slotR 3) -∗
      ((ow c (owe1 c 1) ∗ wt c (kS1 2) 0 ∗ keyB g c ∗ xB g c ∗ win c sM (slotR 3) (g.sendC c)) -∗ Q ⟨Scalar.addi 0#32 (Scalar.muli v6 2#32), Scalar.muli v5 1#32⟩)
      -∗ wp frame (wpE (defs₀ (F := F)) 𝒱₀ c none) Set.univ (k0_part4 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6) Q) := by
  rw [k0_part4_eq_skeleton]; unfold k0_part4_skel
  simp only [semSignalWord, semWaitWord, Prog.lift, Prog.bind_op, Prog.bind_ret, Prog.pure_eq_ret, wp_deviceId]
  iintro #Henv How HS_2 HsT_2 Hkey Hx Hs_3 Hk
  iapply (go1 g K c 2 2 1 rfl rfl (dev4_eq c) rfl rfl rfl rfl) $$ Henv How HS_2 HsT_2
  iintro ⟨How, Hw1_2⟩
  iapply (ld_key g c) $$ Hkey
  iintro Hkey
  iapply (ld_x g c) $$ Hx
  iintro Hx
  iapply (put_s g c 3 (k0_pay8 (g.k c) (g.x c)) (rfl)) $$ Hs_3
  iintro HS_3
  rw [wp_ret]; imodintro
  iapply Hk
  isplitl [How]; · iexact How
  isplitl [Hw1_2]; · iexact Hw1_2
  isplitl [Hkey]; · iexact Hkey
  isplitl [Hx]; · iexact Hx
  iexact HS_3

theorem run5 (v5 v6 : BitVec 32) {Q : _ → sProp (MT nD τ sig Unit (Elt F) ℕ UU ℕ)} :
    env g K ⊢ iprop(ow c (owe1 c 1) -∗ win c sM (slotR 3) (g.sendC c) -∗ sendT c 3 -∗ idleA g c 1 0 -∗ idleB g c 1 0 -∗ wt c (kA 0) ((0 : Fin 2).val) -∗
      ((wt c (kS1 3) 0 ∗ wt c (kA 1) ((0 : Fin 2).val) ∗ wt c (kW 1) ((0 : Fin 2).val) ∗ ow c (owe2 c 4) ∗ fullA g c 0 0) -∗ Q ⟨⟩)
      -∗ wp frame (wpE (defs₀ (F := F)) 𝒱₀ c none) Set.univ (k0_part5 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6) Q) := by
  rw [k0_part5_eq_skeleton]; unfold k0_part5_skel
  simp only [semSignalWord, semWaitWord, Prog.lift, Prog.bind_op, Prog.bind_ret, Prog.pure_eq_ret, wp_deviceId]
  iintro #Henv How HS_3 HsT_3 HiA_10 HiB_10 HwA_00 Hk
  iapply (go1 g K c 3 1 0 rfl rfl (dev5_eq c) rfl rfl rfl rfl) $$ Henv How HS_3 HsT_3
  iintro ⟨How, Hw1_3⟩
  ihave Hj := (all_sent c) $$ How
  icases Hj with How
  iapply (startA g K c 1 0 rfl rfl rfl) $$ Henv HiA_10
  iintro HwA_10
  iapply (startB g K c 1 0 rfl rfl rfl) $$ Henv HiB_10
  iintro HwB_10
  iapply (endA g K c 0 0 (owe2 c 4) (mayWait2 c _ 4 (by decide)) rfl) $$ Henv How HwA_00
  iintro ⟨How, HfA_00⟩
  rw [wp_ret]; imodintro
  iapply Hk
  isplitl [Hw1_3]; · iexact Hw1_3
  isplitl [HwA_10]; · iexact HwA_10
  isplitl [HwB_10]; · iexact HwB_10
  isplitl [How]; · iexact How
  iexact HfA_00

theorem run6 {Q : _ → sProp (MT nD τ sig Unit (Elt F) ℕ UU ℕ)} :
    env g K ⊢ iprop(ow c (owe2 c 4) -∗ wt c (kW 0) ((0 : Fin 2).val) -∗ keyB g c -∗ xB g c -∗ fullA g c 0 0 -∗ winAny c fM (flatR ⟨(0 : Fin 4).val, by omega⟩) -∗
      ((ow c (owe2 c 4) ∗ keyB g c ∗ xB g c ∗ fullA g c 0 0 ∗ fullB g c 0 0 ∗ win c fM (flatR ⟨(0 : Fin 4).val, by omega⟩) (g.flatC c)) -∗ Q ⟨⟩)
      -∗ wp frame (wpE (defs₀ (F := F)) 𝒱₀ c none) Set.univ (k0_part6 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part6_eq_skeleton]; unfold k0_part6_skel
  simp only [semSignalWord, semWaitWord, Prog.lift, Prog.bind_op, Prog.bind_ret, Prog.pure_eq_ret, wp_deviceId]
  iintro #Henv How HwB_00 Hkey Hx HfA_00 Hf_0 Hk
  iapply (endB g K c 0 0 (owe2 c 4) (mayWait2 c _ 4 (by decide)) rfl) $$ Henv How HwB_00
  iintro ⟨How, HfB_00⟩
  iapply (ld_key g c) $$ Hkey
  iintro Hkey
  iapply (ld_x g c) $$ Hx
  iintro Hx
  iapply (ld_a g c 0 0) $$ HfA_00
  iintro HfA_00
  iapply (ld_b g c 0 0) $$ HfB_00
  iintro HfB_00
  iapply (put_f g c 0 (k0_pay9 (g.k c) (g.x c) (g.a c (ex 0 0)) (g.b c (ex 0 0))) (rfl)) $$ Hf_0
  iintro HF_0
  rw [wp_ret]; imodintro
  iapply Hk
  isplitl [How]; · iexact How
  isplitl [Hkey]; · iexact Hkey
  isplitl [Hx]; · iexact Hx
  isplitl [HfA_00]; · iexact HfA_00
  isplitl [HfB_00]; · iexact HfB_00
  iexact HF_0

theorem run7 (v5 v6 : BitVec 32) {Q : _ → sProp (MT nD τ sig Unit (Elt F) ℕ UU ℕ)} :
    env g K ⊢ iprop(ow c (owe2 c 4) -∗ wt c (kS1 0) 0 -∗ wt c (kR1 0) 0 -∗ fullA g c 0 0 -∗ fullB g c 0 0 -∗ winAny c tM (backR 0) -∗
      ((gotS1 g c 0 ∗ ow c (owe2 c 4) ∗ gotR1 g c 0 ∗ fullA g c 0 0 ∗ fullB g c 0 0 ∗ win c tM (backR 0) (g.backC c)) -∗ Q ⟨⟩)
      -∗ wp frame (wpE (defs₀ (F := F)) 𝒱₀ c none) Set.univ (k0_part7 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v5 v6) Q) := by
  rw [k0_part7_eq_skeleton]; unfold k0_part7_skel
  simp only [semSignalWord, semWaitWord, Prog.lift, Prog.bind_op, Prog.bind_ret, Prog.pure_eq_ret, wp_deviceId]
  iintro #Henv How Hw1_0 Hwr1_0 HfA_00 HfB_00 Ht_0 Hk
  iapply (waitS1 g K c 0 (owe2 c 4) (mayWait2 c _ 4 (by decide)) rfl) $$ Henv How Hw1_0
  iintro ⟨How, Hg1_0⟩
  iapply (waitR1 g K c 0 (owe2 c 4) (mayWait2 c _ 4 (by decide)) rfl) $$ Henv How Hwr1_0
  iintro ⟨How, Hr1_0⟩
  iapply (ld_recv g c 0) $$ Hr1_0
  iintro Hr1_0
  iapply (ld_a g c 0 0) $$ HfA_00
  iintro HfA_00
  iapply (ld_b g c 0 0) $$ HfB_00
  iintro HfB_00
  iapply (put_t g c 0 (k0_pay10 (g.snd (pr c) 0) (g.a c (ex 0 0)) (g.b c (ex 0 0))) (rfl)) $$ Ht_0
  iintro HT_0
  rw [wp_ret]; imodintro
  iapply Hk
  isplitl [Hg1_0]; · iexact Hg1_0
  isplitl [How]; · iexact How
  isplitl [Hr1_0]; · iexact Hr1_0
  isplitl [HfA_00]; · iexact HfA_00
  isplitl [HfB_00]; · iexact HfB_00
  iexact HT_0

theorem run8 (v5 v6 : BitVec 32) {Q : _ → sProp (MT nD τ sig Unit (Elt F) ℕ UU ℕ)} :
    env g K ⊢ iprop(ow c (owe2 c 4) -∗ win c tM (backR 0) (g.backC c) -∗ backT c 0 -∗ idleA g c 0 1 -∗ idleB g c 0 1 -∗
      ((ow c (owe2 c 3) ∗ wt c (kS2 0) 0 ∗ wt c (kA 0) ((1 : Fin 2).val) ∗ wt c (kW 0) ((1 : Fin 2).val)) -∗ Q ⟨⟩)
      -∗ wp frame (wpE (defs₀ (F := F)) 𝒱₀ c none) Set.univ (k0_part8 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6) Q) := by
  rw [k0_part8_eq_skeleton]; unfold k0_part8_skel
  simp only [semSignalWord, semWaitWord, Prog.lift, Prog.bind_op, Prog.bind_ret, Prog.pure_eq_ret, wp_deviceId]
  iintro #Henv How HT_0 HbT_0 HiA_01 HiB_01 Hk
  iapply (go2 g K c 0 4 3 rfl rfl (dev6_eq c) rfl rfl rfl rfl) $$ Henv How HT_0 HbT_0
  iintro ⟨How, Hw2_0⟩
  iapply (startA g K c 0 1 rfl rfl rfl) $$ Henv HiA_01
  iintro HwA_01
  iapply (startB g K c 0 1 rfl rfl rfl) $$ Henv HiB_01
  iintro HwB_01
  rw [wp_ret]; imodintro
  iapply Hk
  isplitl [How]; · iexact How
  isplitl [Hw2_0]; · iexact Hw2_0
  isplitl [HwA_01]; · iexact HwA_01
  iexact HwB_01

theorem run9 {Q : _ → sProp (MT nD τ sig Unit (Elt F) ℕ UU ℕ)} :
    env g K ⊢ iprop(ow c (owe2 c 3) -∗ wt c (kA 1) ((0 : Fin 2).val) -∗ wt c (kW 1) ((0 : Fin 2).val) -∗ keyB g c -∗ xB g c -∗ winAny c fM (flatR ⟨(1 : Fin 4).val, by omega⟩) -∗
      ((ow c (owe2 c 3) ∗ keyB g c ∗ xB g c ∗ fullA g c 1 0 ∗ fullB g c 1 0 ∗ win c fM (flatR ⟨(1 : Fin 4).val, by omega⟩) (g.flatC c)) -∗ Q ⟨⟩)
      -∗ wp frame (wpE (defs₀ (F := F)) 𝒱₀ c none) Set.univ (k0_part9 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part9_eq_skeleton]; unfold k0_part9_skel
  simp only [semSignalWord, semWaitWord, Prog.lift, Prog.bind_op, Prog.bind_ret, Prog.pure_eq_ret, wp_deviceId]
  iintro #Henv How HwA_10 HwB_10 Hkey Hx Hf_1 Hk
  iapply (endA g K c 1 0 (owe2 c 3) (mayWait2 c _ 3 (by decide)) rfl) $$ Henv How HwA_10
  iintro ⟨How, HfA_10⟩
  iapply (endB g K c 1 0 (owe2 c 3) (mayWait2 c _ 3 (by decide)) rfl) $$ Henv How HwB_10
  iintro ⟨How, HfB_10⟩
  iapply (ld_key g c) $$ Hkey
  iintro Hkey
  iapply (ld_x g c) $$ Hx
  iintro Hx
  iapply (ld_a g c 1 0) $$ HfA_10
  iintro HfA_10
  iapply (ld_b g c 1 0) $$ HfB_10
  iintro HfB_10
  iapply (put_f g c 1 (k0_pay11 (g.k c) (g.x c) (g.a c (ex 0 1)) (g.b c (ex 0 1))) (rfl)) $$ Hf_1
  iintro HF_1
  rw [wp_ret]; imodintro
  iapply Hk
  isplitl [How]; · iexact How
  isplitl [Hkey]; · iexact Hkey
  isplitl [Hx]; · iexact Hx
  isplitl [HfA_10]; · iexact HfA_10
  isplitl [HfB_10]; · iexact HfB_10
  iexact HF_1

theorem run10 (v5 v6 : BitVec 32) {Q : _ → sProp (MT nD τ sig Unit (Elt F) ℕ UU ℕ)} :
    env g K ⊢ iprop(ow c (owe2 c 3) -∗ wt c (kS1 1) 0 -∗ wt c (kR1 1) 0 -∗ fullA g c 1 0 -∗ fullB g c 1 0 -∗
      ((gotS1 g c 1 ∗ ow c (owe2 c 3) ∗ gotR1 g c 1 ∗ fullA g c 1 0 ∗ fullB g c 1 0) -∗ Q (k0_pay12 (g.snd (pr c) 1) (g.a c (ex 0 1)) (g.b c (ex 0 1))))
      -∗ wp frame (wpE (defs₀ (F := F)) 𝒱₀ c none) Set.univ (k0_part10 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v5 v6) Q) := by
  rw [k0_part10_eq_skeleton]; unfold k0_part10_skel
  simp only [semSignalWord, semWaitWord, Prog.lift, Prog.bind_op, Prog.bind_ret, Prog.pure_eq_ret, wp_deviceId]
  iintro #Henv How Hw1_1 Hwr1_1 HfA_10 HfB_10 Hk
  iapply (waitS1 g K c 1 (owe2 c 3) (mayWait2 c _ 3 (by decide)) rfl) $$ Henv How Hw1_1
  iintro ⟨How, Hg1_1⟩
  iapply (waitR1 g K c 1 (owe2 c 3) (mayWait2 c _ 3 (by decide)) rfl) $$ Henv How Hwr1_1
  iintro ⟨How, Hr1_1⟩
  iapply (ld_recv g c 1) $$ Hr1_1
  iintro Hr1_1
  iapply (ld_a g c 1 0) $$ HfA_10
  iintro HfA_10
  iapply (ld_b g c 1 0) $$ HfB_10
  iintro HfB_10
  rw [wp_ret]; imodintro
  iapply Hk
  isplitl [Hg1_1]; · iexact Hg1_1
  isplitl [How]; · iexact How
  isplitl [Hr1_1]; · iexact Hr1_1
  isplitl [HfA_10]; · iexact HfA_10
  iexact HfB_10

theorem run11 (v5 v6 : BitVec 32) {Q : _ → sProp (MT nD τ sig Unit (Elt F) ℕ UU ℕ)} :
    env g K ⊢ iprop(winAny c tM (backR 1) -∗ ow c (owe2 c 3) -∗ backT c 1 -∗ idleA g c 1 1 -∗ idleB g c 1 1 -∗
      ((ow c (owe2 c 2) ∗ wt c (kS2 1) 0 ∗ wt c (kA 1) ((1 : Fin 2).val) ∗ wt c (kW 1) ((1 : Fin 2).val)) -∗ Q ⟨⟩)
      -∗ wp frame (wpE (defs₀ (F := F)) 𝒱₀ c none) Set.univ (k0_part11 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6 (k0_pay12 (g.snd (pr c) 1) (g.a c (ex 0 1)) (g.b c (ex 0 1)))) Q) := by
  rw [k0_part11_eq_skeleton]; unfold k0_part11_skel
  simp only [semSignalWord, semWaitWord, Prog.lift, Prog.bind_op, Prog.bind_ret, Prog.pure_eq_ret, wp_deviceId]
  iintro #Henv Ht_1 How HbT_1 HiA_11 HiB_11 Hk
  iapply (put_t g c 1 (k0_pay13 (k0_pay12 (g.snd (pr c) 1) (g.a c (ex 0 1)) (g.b c (ex 0 1)))) (rfl)) $$ Ht_1
  iintro HT_1
  iapply (go2 g K c 1 3 2 rfl rfl (dev7_eq c) rfl rfl rfl rfl) $$ Henv How HT_1 HbT_1
  iintro ⟨How, Hw2_1⟩
  iapply (startA g K c 1 1 rfl rfl rfl) $$ Henv HiA_11
  iintro HwA_11
  iapply (startB g K c 1 1 rfl rfl rfl) $$ Henv HiB_11
  iintro HwB_11
  rw [wp_ret]; imodintro
  iapply Hk
  isplitl [How]; · iexact How
  isplitl [Hw2_1]; · iexact Hw2_1
  isplitl [HwA_11]; · iexact HwA_11
  iexact HwB_11

theorem run12 {Q : _ → sProp (MT nD τ sig Unit (Elt F) ℕ UU ℕ)} :
    env g K ⊢ iprop(ow c (owe2 c 2) -∗ wt c (kA 0) ((1 : Fin 2).val) -∗ wt c (kW 0) ((1 : Fin 2).val) -∗ keyB g c -∗ xB g c -∗
      ((ow c (owe2 c 2) ∗ keyB g c ∗ xB g c ∗ fullA g c 0 1 ∗ fullB g c 0 1) -∗ Q (k0_pay14 (g.k c) (g.x c) (g.a c (ex 1 0)) (g.b c (ex 1 0))))
      -∗ wp frame (wpE (defs₀ (F := F)) 𝒱₀ c none) Set.univ (k0_part12 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part12_eq_skeleton]; unfold k0_part12_skel
  simp only [semSignalWord, semWaitWord, Prog.lift, Prog.bind_op, Prog.bind_ret, Prog.pure_eq_ret, wp_deviceId]
  iintro #Henv How HwA_01 HwB_01 Hkey Hx Hk
  iapply (endA g K c 0 1 (owe2 c 2) (mayWait2 c _ 2 (by decide)) rfl) $$ Henv How HwA_01
  iintro ⟨How, HfA_01⟩
  iapply (endB g K c 0 1 (owe2 c 2) (mayWait2 c _ 2 (by decide)) rfl) $$ Henv How HwB_01
  iintro ⟨How, HfB_01⟩
  iapply (ld_key g c) $$ Hkey
  iintro Hkey
  iapply (ld_x g c) $$ Hx
  iintro Hx
  iapply (ld_a g c 0 1) $$ HfA_01
  iintro HfA_01
  iapply (ld_b g c 0 1) $$ HfB_01
  iintro HfB_01
  rw [wp_ret]; imodintro
  iapply Hk
  isplitl [How]; · iexact How
  isplitl [Hkey]; · iexact Hkey
  isplitl [Hx]; · iexact Hx
  isplitl [HfA_01]; · iexact HfA_01
  iexact HfB_01

theorem run13 (v5 v6 : BitVec 32) {Q : _ → sProp (MT nD τ sig Unit (Elt F) ℕ UU ℕ)} :
    env g K ⊢ iprop(winAny c fM (flatR ⟨(2 : Fin 4).val, by omega⟩) -∗ ow c (owe2 c 2) -∗ wt c (kS1 2) 0 -∗ wt c (kR1 2) 0 -∗ fullA g c 0 1 -∗
      ((win c fM (flatR ⟨(2 : Fin 4).val, by omega⟩) (g.flatC c) ∗ gotS1 g c 2 ∗ ow c (owe2 c 2) ∗ gotR1 g c 2 ∗ fullA g c 0 1) -∗ Q (k0_pay16 (g.snd (pr c) 2) (g.a c (ex 1 0))))
      -∗ wp frame (wpE (defs₀ (F := F)) 𝒱₀ c none) Set.univ (k0_part13 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v5 v6 (k0_pay14 (g.k c) (g.x c) (g.a c (ex 1 0)) (g.b c (ex 1 0)))) Q) := by
  rw [k0_part13_eq_skeleton]; unfold k0_part13_skel
  simp only [semSignalWord, semWaitWord, Prog.lift, Prog.bind_op, Prog.bind_ret, Prog.pure_eq_ret, wp_deviceId]
  iintro #Henv Hf_2 How Hw1_2 Hwr1_2 HfA_01 Hk
  iapply (put_f g c 2 (k0_pay15 (k0_pay14 (g.k c) (g.x c) (g.a c (ex 1 0)) (g.b c (ex 1 0)))) (rfl)) $$ Hf_2
  iintro HF_2
  iapply (waitS1 g K c 2 (owe2 c 2) (mayWait2 c _ 2 (by decide)) rfl) $$ Henv How Hw1_2
  iintro ⟨How, Hg1_2⟩
  iapply (waitR1 g K c 2 (owe2 c 2) (mayWait2 c _ 2 (by decide)) rfl) $$ Henv How Hwr1_2
  iintro ⟨How, Hr1_2⟩
  iapply (ld_recv g c 2) $$ Hr1_2
  iintro Hr1_2
  iapply (ld_a g c 0 1) $$ HfA_01
  iintro HfA_01
  rw [wp_ret]; imodintro
  iapply Hk
  isplitl [HF_2]; · iexact HF_2
  isplitl [Hg1_2]; · iexact Hg1_2
  isplitl [How]; · iexact How
  isplitl [Hr1_2]; · iexact Hr1_2
  iexact HfA_01

theorem run14 (v5 v6 : BitVec 32) {Q : _ → sProp (MT nD τ sig Unit (Elt F) ℕ UU ℕ)} :
    env g K ⊢ iprop(fullB g c 0 1 -∗ winAny c tM (backR 2) -∗ ow c (owe2 c 2) -∗ backT c 2 -∗ wt c (kA 1) ((1 : Fin 2).val) -∗ wt c (kW 1) ((1 : Fin 2).val) -∗
      ((fullB g c 0 1 ∗ wt c (kS2 2) 0 ∗ fullA g c 1 1 ∗ ow c (owe2 c 1) ∗ fullB g c 1 1) -∗ Q ⟨⟩)
      -∗ wp frame (wpE (defs₀ (F := F)) 𝒱₀ c none) Set.univ (k0_part14 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c v5 v6 (k0_pay16 (g.snd (pr c) 2) (g.a c (ex 1 0)))) Q) := by
  rw [k0_part14_eq_skeleton]; unfold k0_part14_skel
  simp only [semSignalWord, semWaitWord, Prog.lift, Prog.bind_op, Prog.bind_ret, Prog.pure_eq_ret, wp_deviceId]
  iintro #Henv HfB_01 Ht_2 How HbT_2 HwA_11 HwB_11 Hk
  iapply (ld_b g c 0 1) $$ HfB_01
  iintro HfB_01
  iapply (put_t g c 2 (k0_pay17 (k0_pay16 (g.snd (pr c) 2) (g.a c (ex 1 0))) (g.b c (ex 1 0))) (rfl)) $$ Ht_2
  iintro HT_2
  iapply (go2 g K c 2 2 1 rfl rfl (dev8_eq c) rfl rfl rfl rfl) $$ Henv How HT_2 HbT_2
  iintro ⟨How, Hw2_2⟩
  iapply (endA g K c 1 1 (owe2 c 1) (mayWait2 c _ 1 (by decide)) rfl) $$ Henv How HwA_11
  iintro ⟨How, HfA_11⟩
  iapply (endB g K c 1 1 (owe2 c 1) (mayWait2 c _ 1 (by decide)) rfl) $$ Henv How HwB_11
  iintro ⟨How, HfB_11⟩
  rw [wp_ret]; imodintro
  iapply Hk
  isplitl [HfB_01]; · iexact HfB_01
  isplitl [Hw2_2]; · iexact Hw2_2
  isplitl [HfA_11]; · iexact HfA_11
  isplitl [How]; · iexact How
  iexact HfB_11

theorem run15 {Q : _ → sProp (MT nD τ sig Unit (Elt F) ℕ UU ℕ)} :
    env g K ⊢ iprop(keyB g c -∗ xB g c -∗ fullA g c 1 1 -∗ fullB g c 1 1 -∗ winAny c fM (flatR ⟨(3 : Fin 4).val, by omega⟩) -∗ ow c (owe2 c 1) -∗ wt c (kS1 3) 0 -∗
      ((keyB g c ∗ xB g c ∗ fullA g c 1 1 ∗ fullB g c 1 1 ∗ win c fM (flatR ⟨(3 : Fin 4).val, by omega⟩) (g.flatC c) ∗ ow c (owe2 c 1) ∗ gotS1 g c 3) -∗ Q ⟨⟩)
      -∗ wp frame (wpE (defs₀ (F := F)) 𝒱₀ c none) Set.univ (k0_part15 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part15_eq_skeleton]; unfold k0_part15_skel
  simp only [semSignalWord, semWaitWord, Prog.lift, Prog.bind_op, Prog.bind_ret, Prog.pure_eq_ret, wp_deviceId]
  iintro #Henv Hkey Hx HfA_11 HfB_11 Hf_3 How Hw1_3 Hk
  iapply (ld_key g c) $$ Hkey
  iintro Hkey
  iapply (ld_x g c) $$ Hx
  iintro Hx
  iapply (ld_a g c 1 1) $$ HfA_11
  iintro HfA_11
  iapply (ld_b g c 1 1) $$ HfB_11
  iintro HfB_11
  iapply (put_f g c 3 (k0_pay18 (g.k c) (g.x c) (g.a c (ex 1 1)) (g.b c (ex 1 1))) (rfl)) $$ Hf_3
  iintro HF_3
  iapply (waitS1 g K c 3 (owe2 c 1) (mayWait2 c _ 1 (by decide)) rfl) $$ Henv How Hw1_3
  iintro ⟨How, Hg1_3⟩
  rw [wp_ret]; imodintro
  iapply Hk
  isplitl [Hkey]; · iexact Hkey
  isplitl [Hx]; · iexact Hx
  isplitl [HfA_11]; · iexact HfA_11
  isplitl [HfB_11]; · iexact HfB_11
  isplitl [HF_3]; · iexact HF_3
  isplitl [How]; · iexact How
  iexact Hg1_3

theorem run16 (v5 v6 : BitVec 32) {Q : _ → sProp (MT nD τ sig Unit (Elt F) ℕ UU ℕ)} :
    env g K ⊢ iprop(ow c (owe2 c 1) -∗ wt c (kR1 3) 0 -∗ fullA g c 1 1 -∗ fullB g c 1 1 -∗ winAny c tM (backR 3) -∗
      ((ow c (owe2 c 1) ∗ gotR1 g c 3 ∗ fullA g c 1 1 ∗ fullB g c 1 1 ∗ win c tM (backR 3) (g.backC c)) -∗ Q ⟨⟩)
      -∗ wp frame (wpE (defs₀ (F := F)) 𝒱₀ c none) Set.univ (k0_part16 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v5 v6) Q) := by
  rw [k0_part16_eq_skeleton]; unfold k0_part16_skel
  simp only [semSignalWord, semWaitWord, Prog.lift, Prog.bind_op, Prog.bind_ret, Prog.pure_eq_ret, wp_deviceId]
  iintro #Henv How Hwr1_3 HfA_11 HfB_11 Ht_3 Hk
  iapply (waitR1 g K c 3 (owe2 c 1) (mayWait2 c _ 1 (by decide)) rfl) $$ Henv How Hwr1_3
  iintro ⟨How, Hr1_3⟩
  iapply (ld_recv g c 3) $$ Hr1_3
  iintro Hr1_3
  iapply (ld_a g c 1 1) $$ HfA_11
  iintro HfA_11
  iapply (ld_b g c 1 1) $$ HfB_11
  iintro HfB_11
  iapply (put_t g c 3 (k0_pay19 (g.snd (pr c) 3) (g.a c (ex 1 1)) (g.b c (ex 1 1))) (rfl)) $$ Ht_3
  iintro HT_3
  rw [wp_ret]; imodintro
  iapply Hk
  isplitl [How]; · iexact How
  isplitl [Hr1_3]; · iexact Hr1_3
  isplitl [HfA_11]; · iexact HfA_11
  isplitl [HfB_11]; · iexact HfB_11
  iexact HT_3

end Parts

end Cert.Moe

end
-- ==== Proof.PartsB.lean ====
/-
# The second half of the body

The last rows sent back and the three passes of the combination, as the printed program is cut.
-/
module

public import proofs.«01_k».proof.Proof.Joins
public import proofs.«01_k».proof.Proof.Gen.KernelIdeal.Skeleton

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (g : Args F) (K : GSem nD τ sig → ℕ) (c : Dev nD)

theorem run17 {Q : _ → sProp (MT nD τ sig Unit (Elt F) ℕ UU ℕ)} :
    env g K ⊢ iprop(ow c (owe2 c 1) -∗ win c tM (backR 3) (g.backC c) -∗ backT c 3 -∗ win c fM (flatR ⟨(0 : Fin 4).val, by omega⟩) (g.flatC c) -∗ win c fM (flatR ⟨(1 : Fin 4).val, by omega⟩) (g.flatC c) -∗ win c fM (flatR ⟨(2 : Fin 4).val, by omega⟩) (g.flatC c) -∗ win c fM (flatR ⟨(3 : Fin 4).val, by omega⟩) (g.flatC c) -∗ keyB g c -∗ winAny c oM (outR 0) -∗ winAny c oM (outR 1) -∗
      ((ow c (owe2 c 0) ∗ wt c (kS2 3) 0 ∗ win c oM (outR 0) (g.out1 c) ∗ win c fM lowR (g.flatC c) ∗ win c oM (outR 1) (g.out1 c) ∗ keyB g c) -∗ Q (k0_pay22 (g.kc c 2)))
      -∗ wp frame (wpE (defs₀ (F := F)) 𝒱₀ c none) Set.univ (k0_part17 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 c) Q) := by
  rw [k0_part17_eq_skeleton]; unfold k0_part17_skel
  simp only [semSignalWord, semWaitWord, Prog.lift, Prog.bind_op, Prog.bind_ret, Prog.pure_eq_ret, wp_deviceId]
  iintro #Henv How HT_3 HbT_3 HF_0 HF_1 HF_2 HF_3 Hkey HoA_0 HoA_1 Hk
  iapply (go2 g K c 3 1 0 rfl rfl (dev9_eq c) rfl rfl rfl rfl) $$ Henv How HT_3 HbT_3
  iintro ⟨How, Hw2_3⟩
  ihave Hj := (join_low g c) $$ HF_0 HF_1 HF_2 HF_3
  icases Hj with Hlow
  iapply (ld_kc g c 0) $$ Hkey
  iintro Hkey
  iapply (ld_low g c) $$ Hlow
  iintro Hlow
  iapply (put_o1 g c 0 (k0_pay20 (g.kc c 0) (g.low c)) (rfl)) $$ HoA_0
  iintro Ho1_0
  iapply (ld_kc g c 1) $$ Hkey
  iintro Hkey
  iapply (ld_low g c) $$ Hlow
  iintro Hlow
  iapply (put_o1 g c 1 (k0_pay21 (g.kc c 1) (g.low c)) (rfl)) $$ HoA_1
  iintro Ho1_1
  iapply (ld_kc g c 2) $$ Hkey
  iintro Hkey
  rw [wp_ret]; imodintro
  iapply Hk
  isplitl [How]; · iexact How
  isplitl [Hw2_3]; · iexact Hw2_3
  isplitl [Ho1_0]; · iexact Ho1_0
  isplitl [Hlow]; · iexact Hlow
  isplitl [Ho1_1]; · iexact Ho1_1
  iexact Hkey

theorem run18 {Q : _ → sProp (MT nD τ sig Unit (Elt F) ℕ UU ℕ)} :
    env g K ⊢ iprop(win c fM lowR (g.flatC c) -∗ winAny c oM (outR 2) -∗ keyB g c -∗ winAny c oM (outR 3) -∗ winAny c oM (outR 4) -∗
      ((win c oM (outR 2) (g.out1 c) ∗ win c oM (outR 3) (g.out1 c) ∗ keyB g c ∗ win c fM lowR (g.flatC c) ∗ win c oM (outR 4) (g.out1 c)) -∗ Q ⟨⟩)
      -∗ wp frame (wpE (defs₀ (F := F)) 𝒱₀ c none) Set.univ (k0_part18 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 (k0_pay22 (g.kc c 2))) Q) := by
  rw [k0_part18_eq_skeleton]; unfold k0_part18_skel
  simp only [semSignalWord, semWaitWord, Prog.lift, Prog.bind_op, Prog.bind_ret, Prog.pure_eq_ret, wp_deviceId]
  iintro #Henv Hlow HoA_2 Hkey HoA_3 HoA_4 Hk
  iapply (ld_low g c) $$ Hlow
  iintro Hlow
  iapply (put_o1 g c 2 (k0_pay23 (k0_pay22 (g.kc c 2)) (g.low c)) (rfl)) $$ HoA_2
  iintro Ho1_2
  iapply (ld_kc g c 3) $$ Hkey
  iintro Hkey
  iapply (ld_low g c) $$ Hlow
  iintro Hlow
  iapply (put_o1 g c 3 (k0_pay24 (g.kc c 3) (g.low c)) (rfl)) $$ HoA_3
  iintro Ho1_3
  iapply (ld_kc g c 4) $$ Hkey
  iintro Hkey
  iapply (ld_low g c) $$ Hlow
  iintro Hlow
  iapply (put_o1 g c 4 (k0_pay25 (g.kc c 4) (g.low c)) (rfl)) $$ HoA_4
  iintro Ho1_4
  rw [wp_ret]; imodintro
  iapply Hk
  isplitl [Ho1_2]; · iexact Ho1_2
  isplitl [Ho1_3]; · iexact Ho1_3
  isplitl [Hkey]; · iexact Hkey
  isplitl [Hlow]; · iexact Hlow
  iexact Ho1_4

theorem run19 {Q : _ → sProp (MT nD τ sig Unit (Elt F) ℕ UU ℕ)} :
    env g K ⊢ iprop(keyB g c -∗ win c fM lowR (g.flatC c) -∗ winAny c oM (outR 5) -∗ winAny c oM (outR 6) -∗
      ((win c oM (outR 5) (g.out1 c) ∗ win c oM (outR 6) (g.out1 c) ∗ keyB g c ∗ win c fM lowR (g.flatC c)) -∗ Q ⟨k0_pay28 (g.kc c 7), (g.low c)⟩)
      -∗ wp frame (wpE (defs₀ (F := F)) 𝒱₀ c none) Set.univ (k0_part19 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part19_eq_skeleton]; unfold k0_part19_skel
  simp only [semSignalWord, semWaitWord, Prog.lift, Prog.bind_op, Prog.bind_ret, Prog.pure_eq_ret, wp_deviceId]
  iintro #Henv Hkey Hlow HoA_5 HoA_6 Hk
  iapply (ld_kc g c 5) $$ Hkey
  iintro Hkey
  iapply (ld_low g c) $$ Hlow
  iintro Hlow
  iapply (put_o1 g c 5 (k0_pay26 (g.kc c 5) (g.low c)) (rfl)) $$ HoA_5
  iintro Ho1_5
  iapply (ld_kc g c 6) $$ Hkey
  iintro Hkey
  iapply (ld_low g c) $$ Hlow
  iintro Hlow
  iapply (put_o1 g c 6 (k0_pay27 (g.kc c 6) (g.low c)) (rfl)) $$ HoA_6
  iintro Ho1_6
  iapply (ld_kc g c 7) $$ Hkey
  iintro Hkey
  iapply (ld_low g c) $$ Hlow
  iintro Hlow
  rw [wp_ret]; imodintro
  iapply Hk
  isplitl [Ho1_5]; · iexact Ho1_5
  isplitl [Ho1_6]; · iexact Ho1_6
  isplitl [Hkey]; · iexact Hkey
  iexact Hlow

theorem run20 (v5 v6 : BitVec 32) {Q : _ → sProp (MT nD τ sig Unit (Elt F) ℕ UU ℕ)} :
    env g K ⊢ iprop(winAny c oM (outR 7) -∗ ow c (owe2 c 0) -∗ wt c (kS2 0) 0 -∗ wt c (kR2 0) 0 -∗ wt c (kS2 1) 0 -∗
      ((win c oM (outR 7) (g.out1 c) ∗ gotS2 g c 0 ∗ gotR2 g c 0 ∗ ow c (owe2 c 0) ∗ gotS2 g c 1) -∗ Q ⟨⟩)
      -∗ wp frame (wpE (defs₀ (F := F)) 𝒱₀ c none) Set.univ (k0_part20 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v5 v6 (k0_pay28 (g.kc c 7)) (g.low c)) Q) := by
  rw [k0_part20_eq_skeleton]; unfold k0_part20_skel
  simp only [semSignalWord, semWaitWord, Prog.lift, Prog.bind_op, Prog.bind_ret, Prog.pure_eq_ret, wp_deviceId]
  iintro #Henv HoA_7 How Hw2_0 Hwr2_0 Hw2_1 Hk
  iapply (put_o1 g c 7 (k0_pay29 (k0_pay28 (g.kc c 7)) (g.low c)) (rfl)) $$ HoA_7
  iintro Ho1_7
  iapply (waitS2 g K c 0 (owe2 c 0) (mayWait2 c _ 0 (by decide)) rfl) $$ Henv How Hw2_0
  iintro ⟨How, Hg2_0⟩
  iapply (waitR2 g K c 0 (owe2 c 0) (mayWaitN c _ (by decide)) rfl) $$ Henv How Hwr2_0
  iintro ⟨How, Hr2_0⟩
  iapply (waitS2 g K c 1 (owe2 c 0) (mayWait2 c _ 0 (by decide)) rfl) $$ Henv How Hw2_1
  iintro ⟨How, Hg2_1⟩
  rw [wp_ret]; imodintro
  iapply Hk
  isplitl [Ho1_7]; · iexact Ho1_7
  isplitl [Hg2_0]; · iexact Hg2_0
  isplitl [Hr2_0]; · iexact Hr2_0
  isplitl [How]; · iexact How
  iexact Hg2_1

theorem run21 {Q : _ → sProp (MT nD τ sig Unit (Elt F) ℕ UU ℕ)} :
    env g K ⊢ iprop(ow c (owe2 c 0) -∗ wt c (kR2 1) 0 -∗ gotR2 g c 0 -∗ keyB g c -∗ win c oM (outR 0) (g.out1 c) -∗ win c oM (outR 1) (g.out1 c) -∗
      ((ow c (owe2 c 0) ∗ atPos ER (cell c (kR2 0)) 1 ∅ 0 ∗ atPos ER (cell c (kR2 1)) 1 ∅ 0 ∗ win c oM (outR 0) (g.out2 c) ∗ keyB g c ∗ win c fM midR (g.flatC c) ∗ win c oM (outR 1) (g.out2 c)) -∗ Q ⟨⟩)
      -∗ wp frame (wpE (defs₀ (F := F)) 𝒱₀ c none) Set.univ (k0_part21 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part21_eq_skeleton]; unfold k0_part21_skel
  simp only [semSignalWord, semWaitWord, Prog.lift, Prog.bind_op, Prog.bind_ret, Prog.pure_eq_ret, wp_deviceId]
  iintro #Henv How Hwr2_1 Hr2_0 Hkey Ho1_0 Ho1_1 Hk
  iapply (waitR2 g K c 1 (owe2 c 0) (mayWaitN c _ (by decide)) rfl) $$ Henv How Hwr2_1
  iintro ⟨How, Hr2_1⟩
  ihave Hj := (join_mid g c) $$ Hr2_0 Hr2_1
  icases Hj with ⟨Hmid, Hra_0, Hra_1⟩
  iapply (ld_kc g c 0) $$ Hkey
  iintro Hkey
  iapply (ld_mid g c) $$ Hmid
  iintro Hmid
  iapply (ld_o1 g c 0) $$ Ho1_0
  iintro Ho1_0
  iapply (put_o2 g c 0 (k0_pay30 (g.kc c 0) (g.mid c) (g.o1 c 0)) (rfl)) $$ Ho1_0
  iintro Ho2_0
  iapply (ld_kc g c 1) $$ Hkey
  iintro Hkey
  iapply (ld_mid g c) $$ Hmid
  iintro Hmid
  iapply (ld_o1 g c 1) $$ Ho1_1
  iintro Ho1_1
  iapply (put_o2 g c 1 (k0_pay31 (g.kc c 1) (g.mid c) (g.o1 c 1)) (rfl)) $$ Ho1_1
  iintro Ho2_1
  rw [wp_ret]; imodintro
  iapply Hk
  isplitl [How]; · iexact How
  isplitl [Hra_0]; · iexact Hra_0
  isplitl [Hra_1]; · iexact Hra_1
  isplitl [Ho2_0]; · iexact Ho2_0
  isplitl [Hkey]; · iexact Hkey
  isplitl [Hmid]; · iexact Hmid
  iexact Ho2_1

theorem run22 {Q : _ → sProp (MT nD τ sig Unit (Elt F) ℕ UU ℕ)} :
    env g K ⊢ iprop(keyB g c -∗ win c fM midR (g.flatC c) -∗ win c oM (outR 2) (g.out1 c) -∗ win c oM (outR 3) (g.out1 c) -∗
      ((win c oM (outR 2) (g.out2 c) ∗ win c fM midR (g.flatC c) ∗ win c oM (outR 3) (g.out2 c) ∗ keyB g c) -∗ Q (k0_pay34 (g.kc c 4)))
      -∗ wp frame (wpE (defs₀ (F := F)) 𝒱₀ c none) Set.univ (k0_part22 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 ) Q) := by
  rw [k0_part22_eq_skeleton]; unfold k0_part22_skel
  simp only [semSignalWord, semWaitWord, Prog.lift, Prog.bind_op, Prog.bind_ret, Prog.pure_eq_ret, wp_deviceId]
  iintro #Henv Hkey Hmid Ho1_2 Ho1_3 Hk
  iapply (ld_kc g c 2) $$ Hkey
  iintro Hkey
  iapply (ld_mid g c) $$ Hmid
  iintro Hmid
  iapply (ld_o1 g c 2) $$ Ho1_2
  iintro Ho1_2
  iapply (put_o2 g c 2 (k0_pay32 (g.kc c 2) (g.mid c) (g.o1 c 2)) (rfl)) $$ Ho1_2
  iintro Ho2_2
  iapply (ld_kc g c 3) $$ Hkey
  iintro Hkey
  iapply (ld_mid g c) $$ Hmid
  iintro Hmid
  iapply (ld_o1 g c 3) $$ Ho1_3
  iintro Ho1_3
  iapply (put_o2 g c 3 (k0_pay33 (g.kc c 3) (g.mid c) (g.o1 c 3)) (rfl)) $$ Ho1_3
  iintro Ho2_3
  iapply (ld_kc g c 4) $$ Hkey
  iintro Hkey
  rw [wp_ret]; imodintro
  iapply Hk
  isplitl [Ho2_2]; · iexact Ho2_2
  isplitl [Hmid]; · iexact Hmid
  isplitl [Ho2_3]; · iexact Ho2_3
  iexact Hkey

theorem run23 {Q : _ → sProp (MT nD τ sig Unit (Elt F) ℕ UU ℕ)} :
    env g K ⊢ iprop(win c fM midR (g.flatC c) -∗ win c oM (outR 4) (g.out1 c) -∗ keyB g c -∗ win c oM (outR 5) (g.out1 c) -∗
      ((win c oM (outR 4) (g.out2 c) ∗ win c fM midR (g.flatC c) ∗ win c oM (outR 5) (g.out2 c) ∗ keyB g c) -∗ Q (k0_pay37 (g.kc c 6)))
      -∗ wp frame (wpE (defs₀ (F := F)) 𝒱₀ c none) Set.univ (k0_part23 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 (k0_pay34 (g.kc c 4))) Q) := by
  rw [k0_part23_eq_skeleton]; unfold k0_part23_skel
  simp only [semSignalWord, semWaitWord, Prog.lift, Prog.bind_op, Prog.bind_ret, Prog.pure_eq_ret, wp_deviceId]
  iintro #Henv Hmid Ho1_4 Hkey Ho1_5 Hk
  iapply (ld_mid g c) $$ Hmid
  iintro Hmid
  iapply (ld_o1 g c 4) $$ Ho1_4
  iintro Ho1_4
  iapply (put_o2 g c 4 (k0_pay35 (k0_pay34 (g.kc c 4)) (g.mid c) (g.o1 c 4)) (rfl)) $$ Ho1_4
  iintro Ho2_4
  iapply (ld_kc g c 5) $$ Hkey
  iintro Hkey
  iapply (ld_mid g c) $$ Hmid
  iintro Hmid
  iapply (ld_o1 g c 5) $$ Ho1_5
  iintro Ho1_5
  iapply (put_o2 g c 5 (k0_pay36 (g.kc c 5) (g.mid c) (g.o1 c 5)) (rfl)) $$ Ho1_5
  iintro Ho2_5
  iapply (ld_kc g c 6) $$ Hkey
  iintro Hkey
  rw [wp_ret]; imodintro
  iapply Hk
  isplitl [Ho2_4]; · iexact Ho2_4
  isplitl [Hmid]; · iexact Hmid
  isplitl [Ho2_5]; · iexact Ho2_5
  iexact Hkey

theorem run24 (v6 : BitVec 32) {Q : _ → sProp (MT nD τ sig Unit (Elt F) ℕ UU ℕ)} :
    env g K ⊢ iprop(win c fM midR (g.flatC c) -∗ win c oM (outR 6) (g.out1 c) -∗ keyB g c -∗ win c oM (outR 7) (g.out1 c) -∗ ow c (owe2 c 0) -∗ wt c (kS2 2) 0 -∗
      ((win c oM (outR 6) (g.out2 c) ∗ keyB g c ∗ win c fM midR (g.flatC c) ∗ win c oM (outR 7) (g.out2 c) ∗ ow c (owe2 c 0) ∗ gotS2 g c 2) -∗ Q (Scalar.addi 0#32 (Scalar.muli v6 2#32)))
      -∗ wp frame (wpE (defs₀ (F := F)) 𝒱₀ c none) Set.univ (k0_part24 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v6 (k0_pay37 (g.kc c 6))) Q) := by
  rw [k0_part24_eq_skeleton]; unfold k0_part24_skel
  simp only [semSignalWord, semWaitWord, Prog.lift, Prog.bind_op, Prog.bind_ret, Prog.pure_eq_ret, wp_deviceId]
  iintro #Henv Hmid Ho1_6 Hkey Ho1_7 How Hw2_2 Hk
  iapply (ld_mid g c) $$ Hmid
  iintro Hmid
  iapply (ld_o1 g c 6) $$ Ho1_6
  iintro Ho1_6
  iapply (put_o2 g c 6 (k0_pay38 (k0_pay37 (g.kc c 6)) (g.mid c) (g.o1 c 6)) (rfl)) $$ Ho1_6
  iintro Ho2_6
  iapply (ld_kc g c 7) $$ Hkey
  iintro Hkey
  iapply (ld_mid g c) $$ Hmid
  iintro Hmid
  iapply (ld_o1 g c 7) $$ Ho1_7
  iintro Ho1_7
  iapply (put_o2 g c 7 (k0_pay39 (g.kc c 7) (g.mid c) (g.o1 c 7)) (rfl)) $$ Ho1_7
  iintro Ho2_7
  iapply (waitS2 g K c 2 (owe2 c 0) (mayWait2 c _ 0 (by decide)) rfl) $$ Henv How Hw2_2
  iintro ⟨How, Hg2_2⟩
  rw [wp_ret]; imodintro
  iapply Hk
  isplitl [Ho2_6]; · iexact Ho2_6
  isplitl [Hkey]; · iexact Hkey
  isplitl [Hmid]; · iexact Hmid
  isplitl [Ho2_7]; · iexact Ho2_7
  isplitl [How]; · iexact How
  iexact Hg2_2

theorem run25 (v5 v6 v765 : BitVec 32) {Q : _ → sProp (MT nD τ sig Unit (Elt F) ℕ UU ℕ)} :
    env g K ⊢ iprop(ow c (owe2 c 0) -∗ wt c (kR2 2) 0 -∗ wt c (kS2 3) 0 -∗ wt c (kR2 3) 0 -∗ keyB g c -∗
      ((gotS2 g c 3 ∗ ow c (owe2 c 0) ∗ atPos ER (cell c (kR2 2)) 1 ∅ 0 ∗ atPos ER (cell c (kR2 3)) 1 ∅ 0 ∗ keyB g c ∗ win c fM topR (g.flatC c)) -∗ Q (k0_pay40 (g.kc c 0) (g.top c)))
      -∗ wp frame (wpE (defs₀ (F := F)) 𝒱₀ c none) Set.univ (k0_part25 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 v5 v6 v765) Q) := by
  rw [k0_part25_eq_skeleton]; unfold k0_part25_skel
  simp only [semSignalWord, semWaitWord, Prog.lift, Prog.bind_op, Prog.bind_ret, Prog.pure_eq_ret, wp_deviceId]
  iintro #Henv How Hwr2_2 Hw2_3 Hwr2_3 Hkey Hk
  iapply (waitR2 g K c 2 (owe2 c 0) (mayWaitN c _ (by decide)) rfl) $$ Henv How Hwr2_2
  iintro ⟨How, Hr2_2⟩
  iapply (waitS2 g K c 3 (owe2 c 0) (mayWait2 c _ 0 (by decide)) rfl) $$ Henv How Hw2_3
  iintro ⟨How, Hg2_3⟩
  iapply (waitR2 g K c 3 (owe2 c 0) (mayWaitN c _ (by decide)) rfl) $$ Henv How Hwr2_3
  iintro ⟨How, Hr2_3⟩
  ihave Hj := (join_top g c) $$ Hr2_2 Hr2_3
  icases Hj with ⟨Htop, Hra_2, Hra_3⟩
  iapply (ld_kc g c 0) $$ Hkey
  iintro Hkey
  iapply (ld_top g c) $$ Htop
  iintro Htop
  rw [wp_ret]; imodintro
  iapply Hk
  isplitl [Hg2_3]; · iexact Hg2_3
  isplitl [How]; · iexact How
  isplitl [Hra_2]; · iexact Hra_2
  isplitl [Hra_3]; · iexact Hra_3
  isplitl [Hkey]; · iexact Hkey
  iexact Htop

theorem run26 {Q : _ → sProp (MT nD τ sig Unit (Elt F) ℕ UU ℕ)} :
    env g K ⊢ iprop(win c oM (outR 0) (g.out2 c) -∗ keyB g c -∗ win c fM topR (g.flatC c) -∗ win c oM (outR 1) (g.out2 c) -∗ win c oM (outR 2) (g.out2 c) -∗
      ((win c oM (outR 0) (g.out3 c) ∗ win c oM (outR 1) (g.out3 c) ∗ keyB g c ∗ win c fM topR (g.flatC c) ∗ win c oM (outR 2) (g.out2 c)) -∗ Q (k0_pay43 (g.kc c 2) (g.top c) (g.o2 c 2)))
      -∗ wp frame (wpE (defs₀ (F := F)) 𝒱₀ c none) Set.univ (k0_part26 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 (k0_pay40 (g.kc c 0) (g.top c))) Q) := by
  rw [k0_part26_eq_skeleton]; unfold k0_part26_skel
  simp only [semSignalWord, semWaitWord, Prog.lift, Prog.bind_op, Prog.bind_ret, Prog.pure_eq_ret, wp_deviceId]
  iintro #Henv Ho2_0 Hkey Htop Ho2_1 Ho2_2 Hk
  iapply (ld_o2 g c 0) $$ Ho2_0
  iintro Ho2_0
  iapply (put_o3 g c 0 (k0_pay41 (k0_pay40 (g.kc c 0) (g.top c)) (g.o2 c 0)) (rfl)) $$ Ho2_0
  iintro Ho3_0
  iapply (ld_kc g c 1) $$ Hkey
  iintro Hkey
  iapply (ld_top g c) $$ Htop
  iintro Htop
  iapply (ld_o2 g c 1) $$ Ho2_1
  iintro Ho2_1
  iapply (put_o3 g c 1 (k0_pay42 (g.kc c 1) (g.top c) (g.o2 c 1)) (rfl)) $$ Ho2_1
  iintro Ho3_1
  iapply (ld_kc g c 2) $$ Hkey
  iintro Hkey
  iapply (ld_top g c) $$ Htop
  iintro Htop
  iapply (ld_o2 g c 2) $$ Ho2_2
  iintro Ho2_2
  rw [wp_ret]; imodintro
  iapply Hk
  isplitl [Ho3_0]; · iexact Ho3_0
  isplitl [Ho3_1]; · iexact Ho3_1
  isplitl [Hkey]; · iexact Hkey
  isplitl [Htop]; · iexact Htop
  iexact Ho2_2

theorem run27 {Q : _ → sProp (MT nD τ sig Unit (Elt F) ℕ UU ℕ)} :
    env g K ⊢ iprop(win c oM (outR 2) (g.out2 c) -∗ keyB g c -∗ win c fM topR (g.flatC c) -∗ win c oM (outR 3) (g.out2 c) -∗ win c oM (outR 4) (g.out2 c) -∗
      ((win c oM (outR 2) (g.out3 c) ∗ win c oM (outR 3) (g.out3 c) ∗ win c fM topR (g.flatC c) ∗ win c oM (outR 4) (g.out3 c) ∗ keyB g c) -∗ Q (k0_pay46 (g.kc c 5)))
      -∗ wp frame (wpE (defs₀ (F := F)) 𝒱₀ c none) Set.univ (k0_part27 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 (k0_pay43 (g.kc c 2) (g.top c) (g.o2 c 2))) Q) := by
  rw [k0_part27_eq_skeleton]; unfold k0_part27_skel
  simp only [semSignalWord, semWaitWord, Prog.lift, Prog.bind_op, Prog.bind_ret, Prog.pure_eq_ret, wp_deviceId]
  iintro #Henv Ho2_2 Hkey Htop Ho2_3 Ho2_4 Hk
  iapply (put_o3 g c 2 (k0_pay43 (g.kc c 2) (g.top c) (g.o2 c 2)) (rfl)) $$ Ho2_2
  iintro Ho3_2
  iapply (ld_kc g c 3) $$ Hkey
  iintro Hkey
  iapply (ld_top g c) $$ Htop
  iintro Htop
  iapply (ld_o2 g c 3) $$ Ho2_3
  iintro Ho2_3
  iapply (put_o3 g c 3 (k0_pay44 (g.kc c 3) (g.top c) (g.o2 c 3)) (rfl)) $$ Ho2_3
  iintro Ho3_3
  iapply (ld_kc g c 4) $$ Hkey
  iintro Hkey
  iapply (ld_top g c) $$ Htop
  iintro Htop
  iapply (ld_o2 g c 4) $$ Ho2_4
  iintro Ho2_4
  iapply (put_o3 g c 4 (k0_pay45 (g.kc c 4) (g.top c) (g.o2 c 4)) (rfl)) $$ Ho2_4
  iintro Ho3_4
  iapply (ld_kc g c 5) $$ Hkey
  iintro Hkey
  rw [wp_ret]; imodintro
  iapply Hk
  isplitl [Ho3_2]; · iexact Ho3_2
  isplitl [Ho3_3]; · iexact Ho3_3
  isplitl [Htop]; · iexact Htop
  isplitl [Ho3_4]; · iexact Ho3_4
  iexact Hkey

theorem run28 {Q : _ → sProp (MT nD τ sig Unit (Elt F) ℕ UU ℕ)} :
    env g K ⊢ iprop(win c fM topR (g.flatC c) -∗ win c oM (outR 5) (g.out2 c) -∗ keyB g c -∗ win c oM (outR 6) (g.out2 c) -∗
      ((win c oM (outR 5) (g.out3 c) ∗ win c fM topR (g.flatC c) ∗ win c oM (outR 6) (g.out3 c) ∗ keyB g c) -∗ Q ⟨iota .tc S256x576 32 [1] iota_S256x576_d1_w32, k0_pay49 (g.kc c 7)⟩)
      -∗ wp frame (wpE (defs₀ (F := F)) 𝒱₀ c none) Set.univ (k0_part28 xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11 (k0_pay46 (g.kc c 5))) Q) := by
  rw [k0_part28_eq_skeleton]; unfold k0_part28_skel
  simp only [semSignalWord, semWaitWord, Prog.lift, Prog.bind_op, Prog.bind_ret, Prog.pure_eq_ret, wp_deviceId]
  iintro #Henv Htop Ho2_5 Hkey Ho2_6 Hk
  iapply (ld_top g c) $$ Htop
  iintro Htop
  iapply (ld_o2 g c 5) $$ Ho2_5
  iintro Ho2_5
  iapply (put_o3 g c 5 (k0_pay47 (k0_pay46 (g.kc c 5)) (g.top c) (g.o2 c 5)) (rfl)) $$ Ho2_5
  iintro Ho3_5
  iapply (ld_kc g c 6) $$ Hkey
  iintro Hkey
  iapply (ld_top g c) $$ Htop
  iintro Htop
  iapply (ld_o2 g c 6) $$ Ho2_6
  iintro Ho2_6
  iapply (put_o3 g c 6 (k0_pay48 (g.kc c 6) (g.top c) (g.o2 c 6)) (rfl)) $$ Ho2_6
  iintro Ho3_6
  iapply (ld_kc g c 7) $$ Hkey
  iintro Hkey
  rw [wp_ret]; imodintro
  iapply Hk
  isplitl [Ho3_5]; · iexact Ho3_5
  isplitl [Htop]; · iexact Htop
  isplitl [Ho3_6]; · iexact Ho3_6
  iexact Hkey

end Parts

end Cert.Moe

end
-- ==== Proof.Body.lean ====
/-
# The body of the kernel

The parts one after another, from what a device holds when it enters to what it holds when every cell has run out.
-/
module

public import proofs.«01_k».proof.Proof.PartsA
public import proofs.«01_k».proof.Proof.PartsB

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (g : Args F) (K : GSem nD τ sig → ℕ) (c : Dev nD)

/-- What a device keeps for sending bucket `e` until the partner has opened its landing block, and for its rows. -/
def kit1 (e : Fin 4) : sProp 𝕄 := iprop(rdy c (kS1 e) 0 ∗ atPos ER (cell c (kS1 e)) 0 ∅ 0 ∗ dutyTok ER (cell (pr c) (kR1 e)) 0 ())
def kit2 (e : Fin 4) : sProp 𝕄 := iprop(rdy c (kS2 e) 0 ∗ atPos ER (cell c (kS2 e)) 0 ∅ 0 ∗ dutyTok ER (cell (pr c) (kR2 e)) 0 ())
/-- What the second use of a weight slot needs beyond the first. -/
def nextA (s : Fin 2) : sProp 𝕄 := iprop(dutyTok ER (cell c (kA s)) 1 () ∗ win c AM (AR (ex 1 s)) (g.A c))
def nextB (s : Fin 2) : sProp 𝕄 := iprop(dutyTok ER (cell c (kW s)) 1 () ∗ win c BM (BR (ex 1 s)) (g.B c))

theorem give1 (e : Fin 4) : kit1 c e ⊢ iprop((∃ f, win (pr c) rM (slotR e) f) -∗ reached ER (cell (pr c) (kR1 e)) 0 -∗ sendT c e : sProp 𝕄) := by
  unfold kit1 sendT land1 winAny
  iintro ⟨Hr, Ha, Hd⟩ Hw Hre
  isplitl [Hr]; · iexact Hr
  isplitr [Ha]
  · isplitl [Hw]; · iexact Hw
    unfold rdy
    isplitl [Hd] <;> iassumption
  iexact Ha
theorem give2 (e : Fin 4) : kit2 c e ⊢ iprop((∃ f, win (pr c) fM (flatR (far e)) f) -∗ reached ER (cell (pr c) (kR2 e)) 0 -∗ backT c e : sProp 𝕄) := by
  unfold kit2 backT land2 winAny
  iintro ⟨Hr, Ha, Hd⟩ Hw Hre
  isplitl [Hr]; · iexact Hr
  isplitr [Ha]
  · isplitl [Hw]; · iexact Hw
    unfold rdy
    isplitl [Hd] <;> iassumption
  iexact Ha

/-- The partner's signal in hand, every transfer to it may start. -/
theorem deal : barPay c ⊢ iprop(kit1 c 0 -∗ kit1 c 1 -∗ kit1 c 2 -∗ kit1 c 3 -∗ kit2 c 0 -∗ kit2 c 1 -∗ kit2 c 2 -∗ kit2 c 3
    -∗ (sendT c 0 ∗ sendT c 1 ∗ sendT c 2 ∗ sendT c 3 ∗ backT c 0 ∗ backT c 1 ∗ backT c 2 ∗ backT c 3) : sProp 𝕄) := by
  unfold barPay
  iintro ⟨⟨Ha0, Ha1, Ha2, Ha3⟩, ⟨Hb0, Hb1, Hb2, Hb3⟩, ⟨Hc0, Hc1, Hc2, Hc3⟩, ⟨Hd0, Hd1, Hd2, Hd3⟩⟩ Hk0 Hk1 Hk2 Hk3 Hl0 Hl1 Hl2 Hl3
  isplitl [Hk0 Ha0 Hc0]; · iapply (give1 c 0) $$ Hk0 Ha0 Hc0
  isplitl [Hk1 Ha1 Hc1]; · iapply (give1 c 1) $$ Hk1 Ha1 Hc1
  isplitl [Hk2 Ha2 Hc2]; · iapply (give1 c 2) $$ Hk2 Ha2 Hc2
  isplitl [Hk3 Ha3 Hc3]; · iapply (give1 c 3) $$ Hk3 Ha3 Hc3
  isplitl [Hl0 Hb0 Hd0]; · iapply (give2 c 0) $$ Hl0 Hb0 Hd0
  isplitl [Hl1 Hb1 Hd1]; · iapply (give2 c 1) $$ Hl1 Hb1 Hd1
  isplitl [Hl2 Hb2 Hd2]; · iapply (give2 c 2) $$ Hl2 Hb2 Hd2
  iapply (give2 c 3) $$ Hl3 Hb3 Hd3

theorem turnA (s : Fin 2) : fullA g c s 0 ⊢ iprop(nextA g c s -∗ (idleA g c s 1 ∗ win c AM (AR (ex 0 s)) (g.A c)) : sProp 𝕄) := by
  unfold fullA nextA idleA winAny rdy
  iintro ⟨Ha, Hr, Hw, Hm⟩ ⟨Hd, Hn⟩
  isplitr [Hm]
  · isplitl [Ha]; · iexact Ha
    isplitl [Hd Hr]
    · isplitl [Hd]
      · iexact Hd
      · iexact Hr
    isplitl [Hw]
    · iexists _; iexact Hw
    iexact Hn
  iexact Hm

theorem turnB (s : Fin 2) : fullB g c s 0 ⊢ iprop(nextB g c s -∗ (idleB g c s 1 ∗ win c BM (BR (ex 0 s)) (g.B c)) : sProp 𝕄) := by
  unfold fullB nextB idleB winAny rdy
  iintro ⟨Ha, Hr, Hw, Hm⟩ ⟨Hd, Hn⟩
  isplitr [Hm]
  · isplitl [Ha]; · iexact Ha
    isplitl [Hd Hr]
    · isplitl [Hd]
      · iexact Hd
      · iexact Hr
    isplitl [Hw]
    · iexists _; iexact Hw
    iexact Hn
  iexact Hm

/-- What is held when the body enters, every piece by itself, -/
@[irreducible] def entry : sProp 𝕄 :=
  iprop(idleA g c 0 0 ∗ idleB g c 0 0 ∗ idleA g c 1 0 ∗ idleB g c 1 0 ∗ nextA g c 0 ∗ nextA g c 1 ∗ nextB g c 0 ∗ nextB g c 1 ∗ ow c (O₀ c) ∗ rdy (pr c) kB 0 ∗ barPay (pr c) ∗ wt c kB 0 ∗ keyB g c ∗ xB g c ∗ wt c (kR1 0) 0 ∗ wt c (kR1 1) 0 ∗ wt c (kR1 2) 0 ∗ wt c (kR1 3) 0 ∗ wt c (kR2 0) 0 ∗ wt c (kR2 1) 0 ∗ wt c (kR2 2) 0 ∗ wt c (kR2 3) 0 ∗ kit1 c 0 ∗ kit1 c 1 ∗ kit1 c 2 ∗ kit1 c 3 ∗ kit2 c 0 ∗ kit2 c 1 ∗ kit2 c 2 ∗ kit2 c 3 ∗ winAny c sM (slotR 0) ∗ winAny c sM (slotR 1) ∗ winAny c sM (slotR 2) ∗ winAny c sM (slotR 3) ∗ winAny c tM (backR 0) ∗ winAny c tM (backR 1) ∗ winAny c tM (backR 2) ∗ winAny c tM (backR 3) ∗ winAny c fM (flatR ⟨(0 : Fin 4).val, by omega⟩) ∗ winAny c fM (flatR ⟨(1 : Fin 4).val, by omega⟩) ∗ winAny c fM (flatR ⟨(2 : Fin 4).val, by omega⟩) ∗ winAny c fM (flatR ⟨(3 : Fin 4).val, by omega⟩) ∗ winAny c oM (outR 0) ∗ winAny c oM (outR 1) ∗ winAny c oM (outR 2) ∗ winAny c oM (outR 3) ∗ winAny c oM (outR 4) ∗ winAny c oM (outR 5) ∗ winAny c oM (outR 6) ∗ winAny c oM (outR 7))
/-- and when it leaves. -/
@[irreducible] def leave : sProp 𝕄 :=
  iprop(ow c (owe2 c 0) ∗ keyB g c ∗ xB g c ∗ atPos ER (cell c kB) 1 ∅ 0 ∗ fullA g c 0 1 ∗ fullA g c 1 1 ∗ fullB g c 0 1 ∗ fullB g c 1 1 ∗ gotS1 g c 0 ∗ gotS1 g c 1 ∗ gotS1 g c 2 ∗ gotS1 g c 3 ∗ gotS2 g c 0 ∗ gotS2 g c 1 ∗ gotS2 g c 2 ∗ gotS2 g c 3 ∗ win c fM lowR (g.flatC c) ∗ win c fM midR (g.flatC c) ∗ win c oM (outR 0) (g.out3 c) ∗ win c oM (outR 1) (g.out3 c) ∗ win c oM (outR 2) (g.out3 c) ∗ win c oM (outR 3) (g.out3 c) ∗ win c oM (outR 4) (g.out3 c) ∗ win c oM (outR 5) (g.out3 c) ∗ win c oM (outR 6) (g.out3 c) ∗ win c oM (outR 7) (g.out3 c) ∗ gotR1 g c 0 ∗ gotR1 g c 1 ∗ gotR1 g c 2 ∗ gotR1 g c 3 ∗ atPos ER (cell c (kR2 0)) 1 ∅ 0 ∗ atPos ER (cell c (kR2 1)) 1 ∅ 0 ∗ atPos ER (cell c (kR2 2)) 1 ∅ 0 ∗ atPos ER (cell c (kR2 3)) 1 ∅ 0 ∗ win c fM topR (g.flatC c) ∗ win c AM (AR (ex 0 0)) (g.A c) ∗ win c AM (AR (ex 0 1)) (g.A c) ∗ win c BM (BR (ex 0 0)) (g.B c) ∗ win c BM (BR (ex 0 1)) (g.B c))

set_option maxHeartbeats 4000000 in
set_option maxRecDepth 65536 in
theorem body_run {Q : PUnit → sProp (MT nD τ sig Unit (Elt F) ℕ UU ℕ)} :
    env g K ⊢ iprop(entry g c -∗ (leave g c -∗ Q ⟨⟩)
      -∗ wp frame (wpE (defs₀ (F := F)) 𝒱₀ c none) Set.univ (cc0__moe_body xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11) Q) := by
  rw [cc0__moe_body_eq_skeleton]; unfold cc0__moe_body_skel entry leave
  iintro #Henv ⟨HiA_00, HiB_00, HiA_10, HiB_10, HnA_0, HnA_1, HnB_0, HnB_1, How, Hbrd, Hbpp, Hbw, Hkey, Hx, Hwr1_0, Hwr1_1, Hwr1_2, Hwr1_3, Hwr2_0, Hwr2_1, Hwr2_2, Hwr2_3, Hk1_0, Hk1_1, Hk1_2, Hk1_3, Hk2_0, Hk2_1, Hk2_2, Hk2_3, Hs_0, Hs_1, Hs_2, Hs_3, Ht_0, Ht_1, Ht_2, Ht_3, Hf_0, Hf_1, Hf_2, Hf_3, HoA_0, HoA_1, HoA_2, HoA_3, HoA_4, HoA_5, HoA_6, HoA_7⟩ Hk
  rw [wp_bind]
  iapply (run1 g K c ) $$ Henv HiA_00 HiB_00 How Hbrd Hbpp Hbw Hkey
  iintro ⟨HwA_00, HwB_00, How, Hbat, Hbp, Hkey⟩
  try dsimp only
  ihave Hj := (deal c) $$ Hbp Hk1_0 Hk1_1 Hk1_2 Hk1_3 Hk2_0 Hk2_1 Hk2_2 Hk2_3
  icases Hj with ⟨HsT_0, HsT_1, HsT_2, HsT_3, HbT_0, HbT_1, HbT_2, HbT_3⟩
  rw [wp_bind]
  iapply (run2 g K c _ _) $$ Henv Hx Hs_0 How HsT_0 Hkey
  iintro ⟨How, Hw1_0, Hkey, Hx⟩
  try dsimp only
  rw [wp_bind]
  iapply (run3 g K c _ _) $$ Henv Hs_1 How HsT_1 Hkey Hx Hs_2
  iintro ⟨How, Hw1_1, Hkey, Hx, HS_2⟩
  try dsimp only
  rw [wp_bind]
  iapply (run4 g K c _ _) $$ Henv How HS_2 HsT_2 Hkey Hx Hs_3
  iintro ⟨How, Hw1_2, Hkey, Hx, HS_3⟩
  try dsimp only
  rw [wp_bind]
  iapply (run5 g K c _ _) $$ Henv How HS_3 HsT_3 HiA_10 HiB_10 HwA_00
  iintro ⟨Hw1_3, HwA_10, HwB_10, How, HfA_00⟩
  try dsimp only
  rw [wp_bind]
  iapply (run6 g K c ) $$ Henv How HwB_00 Hkey Hx HfA_00 Hf_0
  iintro ⟨How, Hkey, Hx, HfA_00, HfB_00, HF_0⟩
  try dsimp only
  rw [wp_bind]
  iapply (run7 g K c _ _) $$ Henv How Hw1_0 Hwr1_0 HfA_00 HfB_00 Ht_0
  iintro ⟨Hg1_0, How, Hr1_0, HfA_00, HfB_00, HT_0⟩
  try dsimp only
  ihave Hj := (turnA g c 0) $$ HfA_00 HnA_0
  icases Hj with ⟨HiA_01, HvA_0⟩
  ihave Hj := (turnB g c 0) $$ HfB_00 HnB_0
  icases Hj with ⟨HiB_01, HvB_0⟩
  rw [wp_bind]
  iapply (run8 g K c _ _) $$ Henv How HT_0 HbT_0 HiA_01 HiB_01
  iintro ⟨How, Hw2_0, HwA_01, HwB_01⟩
  try dsimp only
  rw [wp_bind]
  iapply (run9 g K c ) $$ Henv How HwA_10 HwB_10 Hkey Hx Hf_1
  iintro ⟨How, Hkey, Hx, HfA_10, HfB_10, HF_1⟩
  try dsimp only
  rw [wp_bind]
  iapply (run10 g K c _ _) $$ Henv How Hw1_1 Hwr1_1 HfA_10 HfB_10
  iintro ⟨Hg1_1, How, Hr1_1, HfA_10, HfB_10⟩
  try dsimp only
  ihave Hj := (turnA g c 1) $$ HfA_10 HnA_1
  icases Hj with ⟨HiA_11, HvA_1⟩
  ihave Hj := (turnB g c 1) $$ HfB_10 HnB_1
  icases Hj with ⟨HiB_11, HvB_1⟩
  rw [wp_bind]
  iapply (run11 g K c _ _) $$ Henv Ht_1 How HbT_1 HiA_11 HiB_11
  iintro ⟨How, Hw2_1, HwA_11, HwB_11⟩
  try dsimp only
  rw [wp_bind]
  iapply (run12 g K c ) $$ Henv How HwA_01 HwB_01 Hkey Hx
  iintro ⟨How, Hkey, Hx, HfA_01, HfB_01⟩
  try dsimp only
  rw [wp_bind]
  iapply (run13 g K c _ _) $$ Henv Hf_2 How Hw1_2 Hwr1_2 HfA_01
  iintro ⟨HF_2, Hg1_2, How, Hr1_2, HfA_01⟩
  try dsimp only
  rw [wp_bind]
  iapply (run14 g K c _ _) $$ Henv HfB_01 Ht_2 How HbT_2 HwA_11 HwB_11
  iintro ⟨HfB_01, Hw2_2, HfA_11, How, HfB_11⟩
  try dsimp only
  rw [wp_bind]
  iapply (run15 g K c ) $$ Henv Hkey Hx HfA_11 HfB_11 Hf_3 How Hw1_3
  iintro ⟨Hkey, Hx, HfA_11, HfB_11, HF_3, How, Hg1_3⟩
  try dsimp only
  rw [wp_bind]
  iapply (run16 g K c _ _) $$ Henv How Hwr1_3 HfA_11 HfB_11 Ht_3
  iintro ⟨How, Hr1_3, HfA_11, HfB_11, HT_3⟩
  try dsimp only
  rw [wp_bind]
  iapply (run17 g K c ) $$ Henv How HT_3 HbT_3 HF_0 HF_1 HF_2 HF_3 Hkey HoA_0 HoA_1
  iintro ⟨How, Hw2_3, Ho1_0, Hlow, Ho1_1, Hkey⟩
  try dsimp only
  rw [wp_bind]
  iapply (run18 g K c ) $$ Henv Hlow HoA_2 Hkey HoA_3 HoA_4
  iintro ⟨Ho1_2, Ho1_3, Hkey, Hlow, Ho1_4⟩
  try dsimp only
  rw [wp_bind]
  iapply (run19 g K c ) $$ Henv Hkey Hlow HoA_5 HoA_6
  iintro ⟨Ho1_5, Ho1_6, Hkey, Hlow⟩
  try dsimp only
  rw [wp_bind]
  iapply (run20 g K c _ _) $$ Henv HoA_7 How Hw2_0 Hwr2_0 Hw2_1
  iintro ⟨Ho1_7, Hg2_0, Hr2_0, How, Hg2_1⟩
  try dsimp only
  rw [wp_bind]
  iapply (run21 g K c ) $$ Henv How Hwr2_1 Hr2_0 Hkey Ho1_0 Ho1_1
  iintro ⟨How, Hra_0, Hra_1, Ho2_0, Hkey, Hmid, Ho2_1⟩
  try dsimp only
  rw [wp_bind]
  iapply (run22 g K c ) $$ Henv Hkey Hmid Ho1_2 Ho1_3
  iintro ⟨Ho2_2, Hmid, Ho2_3, Hkey⟩
  try dsimp only
  rw [wp_bind]
  iapply (run23 g K c ) $$ Henv Hmid Ho1_4 Hkey Ho1_5
  iintro ⟨Ho2_4, Hmid, Ho2_5, Hkey⟩
  try dsimp only
  rw [wp_bind]
  iapply (run24 g K c _) $$ Henv Hmid Ho1_6 Hkey Ho1_7 How Hw2_2
  iintro ⟨Ho2_6, Hkey, Hmid, Ho2_7, How, Hg2_2⟩
  try dsimp only
  rw [wp_bind]
  iapply (run25 g K c _ _ _) $$ Henv How Hwr2_2 Hw2_3 Hwr2_3 Hkey
  iintro ⟨Hg2_3, How, Hra_2, Hra_3, Hkey, Htop⟩
  try dsimp only
  rw [wp_bind]
  iapply (run26 g K c ) $$ Henv Ho2_0 Hkey Htop Ho2_1 Ho2_2
  iintro ⟨Ho3_0, Ho3_1, Hkey, Htop, Ho2_2⟩
  try dsimp only
  rw [wp_bind]
  iapply (run27 g K c ) $$ Henv Ho2_2 Hkey Htop Ho2_3 Ho2_4
  iintro ⟨Ho3_2, Ho3_3, Htop, Ho3_4, Hkey⟩
  try dsimp only
  rw [wp_bind]
  iapply (run28 g K c ) $$ Henv Htop Ho2_5 Hkey Ho2_6
  iintro ⟨Ho3_5, Htop, Ho3_6, Hkey⟩
  try dsimp only
  simp only [Prog.lift, Prog.bind_op, Prog.bind_ret, Prog.pure_eq_ret]
  iapply (ld_top g c) $$ Htop
  iintro Htop
  iapply (ld_o2 g c 7) $$ Ho2_7
  iintro Ho2_7
  iapply (put_o3 g c 7 (k0_pay1 (iota .tc S256x576 32 [1] iota_S256x576_d1_w32) (k0_pay49 (g.kc c 7)) (g.top c) (g.o2 c 7)) rfl) $$ Ho2_7
  iintro Ho3_7
  rw [wp_ret]; imodintro
  iapply Hk
  isplitl [How]; · iexact How
  isplitl [Hkey]; · iexact Hkey
  isplitl [Hx]; · iexact Hx
  isplitl [Hbat]; · iexact Hbat
  isplitl [HfA_01]; · iexact HfA_01
  isplitl [HfA_11]; · iexact HfA_11
  isplitl [HfB_01]; · iexact HfB_01
  isplitl [HfB_11]; · iexact HfB_11
  isplitl [Hg1_0]; · iexact Hg1_0
  isplitl [Hg1_1]; · iexact Hg1_1
  isplitl [Hg1_2]; · iexact Hg1_2
  isplitl [Hg1_3]; · iexact Hg1_3
  isplitl [Hg2_0]; · iexact Hg2_0
  isplitl [Hg2_1]; · iexact Hg2_1
  isplitl [Hg2_2]; · iexact Hg2_2
  isplitl [Hg2_3]; · iexact Hg2_3
  isplitl [Hlow]; · iexact Hlow
  isplitl [Hmid]; · iexact Hmid
  isplitl [Ho3_0]; · iexact Ho3_0
  isplitl [Ho3_1]; · iexact Ho3_1
  isplitl [Ho3_2]; · iexact Ho3_2
  isplitl [Ho3_3]; · iexact Ho3_3
  isplitl [Ho3_4]; · iexact Ho3_4
  isplitl [Ho3_5]; · iexact Ho3_5
  isplitl [Ho3_6]; · iexact Ho3_6
  isplitl [Ho3_7]; · iexact Ho3_7
  isplitl [Hr1_0]; · iexact Hr1_0
  isplitl [Hr1_1]; · iexact Hr1_1
  isplitl [Hr1_2]; · iexact Hr1_2
  isplitl [Hr1_3]; · iexact Hr1_3
  isplitl [Hra_0]; · iexact Hra_0
  isplitl [Hra_1]; · iexact Hra_1
  isplitl [Hra_2]; · iexact Hra_2
  isplitl [Hra_3]; · iexact Hra_3
  isplitl [Htop]; · iexact Htop
  isplitl [HvA_0]; · iexact HvA_0
  isplitl [HvA_1]; · iexact HvA_1
  isplitl [HvB_0]; · iexact HvB_0
  iexact HvB_1

end Body

end Cert.Moe

end
-- ==== Proof.Ends.lean ====
/-
# Entering and leaving the body

The buffers a device holds whole are cut into the blocks the body works on, and put together again at the end,
where every cell is closed as well.
-/
module

public import proofs.«01_k».proof.Proof.Body

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Cut
variable (c : Dev nD)

theorem slots_any (M : Memref sig .tc .vmem S4x288x1024 .bf16) (hM : M.view.set = Finset.univ) : iprop(∃ f, M.view.loc (c : Thread nD τ) ↦{fullShare} f) ⊢ (iprop(winAny c M (slotR 0) ∗ winAny c M (slotR 1) ∗ winAny c M (slotR 2) ∗ winAny c M (slotR 3)) : sProp 𝕄) := by
  iintro ⟨%f, H⟩
  ihave H := (Entails.of_eq (slots_eq c M hM f)) $$ H
  icases H with ⟨H0, H1, H2, H3⟩
  unfold winAny
  isplitl [H0]; · iexists f; iexact H0
  isplitl [H1]; · iexists f; iexact H1
  isplitl [H2]; · iexists f; iexact H2
  iexists f; iexact H3
theorem flat_any : iprop(∃ f, fM.view.loc (c : Thread nD τ) ↦{fullShare} f) ⊢ (iprop(winAny c fM (flatR 0) ∗ winAny c fM (flatR 1) ∗ winAny c fM (flatR 2) ∗ winAny c fM (flatR 3) ∗ winAny c fM (flatR 4) ∗ winAny c fM (flatR 5) ∗ winAny c fM (flatR 6) ∗ winAny c fM (flatR 7)) : sProp 𝕄) := by
  iintro ⟨%f, H⟩
  ihave H := (Entails.of_eq (flat_eq c f)) $$ H
  icases H with ⟨H0, H1, H2, H3, H4, H5, H6, H7⟩
  unfold winAny
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7
theorem back_any : iprop(∃ f, tM.view.loc (c : Thread nD τ) ↦{fullShare} f) ⊢ (iprop(winAny c tM (backR 0) ∗ winAny c tM (backR 1) ∗ winAny c tM (backR 2) ∗ winAny c tM (backR 3)) : sProp 𝕄) := by
  iintro ⟨%f, H⟩
  ihave H := (Entails.of_eq (back_eq c f)) $$ H
  icases H with ⟨H0, H1, H2, H3⟩
  unfold winAny
  isplitl [H0]; · iexists f; iexact H0
  isplitl [H1]; · iexists f; iexact H1
  isplitl [H2]; · iexists f; iexact H2
  iexists f; iexact H3
theorem out_any : iprop(∃ f, oM.view.loc (c : Thread nD τ) ↦{fullShare} f) ⊢ (iprop(winAny c oM (outR 0) ∗ winAny c oM (outR 1) ∗ winAny c oM (outR 2) ∗ winAny c oM (outR 3) ∗ winAny c oM (outR 4) ∗ winAny c oM (outR 5) ∗ winAny c oM (outR 6) ∗ winAny c oM (outR 7)) : sProp 𝕄) := by
  iintro ⟨%f, H⟩
  ihave H := (Entails.of_eq (out_eq c f)) $$ H
  icases H with ⟨H0, H1, H2, H3, H4, H5, H6, H7⟩
  unfold winAny
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7
theorem a_any : iprop(∃ f, aM.view.loc (c : Thread nD τ) ↦{fullShare} f) ⊢ (iprop(winAny c aM (aR 0) ∗ winAny c aM (aR 1)) : sProp 𝕄) := by
  iintro ⟨%f, H⟩
  ihave H := (Entails.of_eq (a_eq c f)) $$ H
  icases H with ⟨H0, H1⟩
  unfold winAny
  isplitl [H0]; · iexists f; iexact H0
  iexists f; iexact H1
theorem b_any : iprop(∃ f, bM.view.loc (c : Thread nD τ) ↦{fullShare} f) ⊢ (iprop(winAny c bM (bR 0) ∗ winAny c bM (bR 1)) : sProp 𝕄) := by
  iintro ⟨%f, H⟩
  ihave H := (Entails.of_eq (b_eq c f)) $$ H
  icases H with ⟨H0, H1⟩
  unfold winAny
  isplitl [H0]; · iexists f; iexact H0
  iexists f; iexact H1

/-- The six scratch buffers, at contents not named. -/
def scr : sProp 𝕄 :=
  iprop((∃ f, sM.view.loc (c : Thread nD τ) ↦{fullShare} f) ∗ (∃ f, rM.view.loc (c : Thread nD τ) ↦{fullShare} f)
    ∗ (∃ f, fM.view.loc (c : Thread nD τ) ↦{fullShare} f) ∗ (∃ f, tM.view.loc (c : Thread nD τ) ↦{fullShare} f)
    ∗ (∃ f, aM.view.loc (c : Thread nD τ) ↦{fullShare} f) ∗ (∃ f, bM.view.loc (c : Thread nD τ) ↦{fullShare} f))

/-- Its transfer cells at their starts, -/
def posn : sProp 𝕄 := bigSep Finset.univ fun k : Fin 20 => atPos ER (cell c k.succ) 0 ∅ 0
/-- and open; -/
def opened : sProp 𝕄 := bigSep Finset.univ fun k : Fin 20 => reached ER (cell c k.succ) 0
theorem bigSep_twenty (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
theorem posn_eq : (posn c : sProp 𝕄) = iprop(atPos ER (cell c 1) 0 ∅ 0 ∗ atPos ER (cell c 2) 0 ∅ 0 ∗ atPos ER (cell c 3) 0 ∅ 0 ∗ atPos ER (cell c 4) 0 ∅ 0 ∗ atPos ER (cell c 5) 0 ∅ 0 ∗ atPos ER (cell c 6) 0 ∅ 0 ∗ atPos ER (cell c 7) 0 ∅ 0 ∗ atPos ER (cell c 8) 0 ∅ 0 ∗ atPos ER (cell c 9) 0 ∅ 0 ∗ atPos ER (cell c 10) 0 ∅ 0 ∗ atPos ER (cell c 11) 0 ∅ 0 ∗ atPos ER (cell c 12) 0 ∅ 0 ∗ atPos ER (cell c 13) 0 ∅ 0 ∗ atPos ER (cell c 14) 0 ∅ 0 ∗ atPos ER (cell c 15) 0 ∅ 0 ∗ atPos ER (cell c 16) 0 ∅ 0 ∗ atPos ER (cell c 17) 0 ∅ 0 ∗ atPos ER (cell c 18) 0 ∅ 0 ∗ atPos ER (cell c 19) 0 ∅ 0 ∗ atPos ER (cell c 20) 0 ∅ 0) := bigSep_twenty _
theorem opened_eq : (opened c : sProp 𝕄) = iprop(reached ER (cell c 1) 0 ∗ reached ER (cell c 2) 0 ∗ reached ER (cell c 3) 0 ∗ reached ER (cell c 4) 0 ∗ reached ER (cell c 5) 0 ∗ reached ER (cell c 6) 0 ∗ reached ER (cell c 7) 0 ∗ reached ER (cell c 8) 0 ∗ reached ER (cell c 9) 0 ∗ reached ER (cell c 10) 0 ∗ reached ER (cell c 11) 0 ∗ reached ER (cell c 12) 0 ∗ reached ER (cell c 13) 0 ∗ reached ER (cell c 14) 0 ∗ reached ER (cell c 15) 0 ∗ reached ER (cell c 16) 0 ∗ reached ER (cell c 17) 0 ∗ reached ER (cell c 18) 0 ∗ reached ER (cell c 19) 0 ∗ reached ER (cell c 20) 0) := bigSep_twenty _

/-- the contributions it is to make, by cell, -/
def tokK (j : Fin 25) : Fin 21 := if h : j.val < 21 then ⟨j.val, h⟩ else ⟨j.val - 20, by omega⟩
/-- by round, -/
def tokR (j : Fin 25) : ℕ := if j.val < 21 then 0 else 1
/-- and by device; -/
def tokD (j : Fin 25) (c : Dev nD) : Dev nD := if j.val = 0 ∨ 9 ≤ j.val ∧ j.val < 13 ∨ 17 ≤ j.val ∧ j.val < 21 then pr c else c
def duty : sProp 𝕄 := bigSep Finset.univ fun j : Fin 25 => dutyTok ER (cell (tokD j c) (tokK j)) (tokR j) ()
theorem duty_eq : (duty c : sProp 𝕄) = iprop(dutyTok ER (cell (pr c) 0) 0 () ∗ dutyTok ER (cell c 1) 0 () ∗ dutyTok ER (cell c 2) 0 () ∗ dutyTok ER (cell c 3) 0 () ∗ dutyTok ER (cell c 4) 0 () ∗ dutyTok ER (cell c 5) 0 () ∗ dutyTok ER (cell c 6) 0 () ∗ dutyTok ER (cell c 7) 0 () ∗ dutyTok ER (cell c 8) 0 () ∗ dutyTok ER (cell (pr c) 9) 0 () ∗ dutyTok ER (cell (pr c) 10) 0 () ∗ dutyTok ER (cell (pr c) 11) 0 () ∗ dutyTok ER (cell (pr c) 12) 0 () ∗ dutyTok ER (cell c 13) 0 () ∗ dutyTok ER (cell c 14) 0 () ∗ dutyTok ER (cell c 15) 0 () ∗ dutyTok ER (cell c 16) 0 () ∗ dutyTok ER (cell (pr c) 17) 0 () ∗ dutyTok ER (cell (pr c) 18) 0 () ∗ dutyTok ER (cell (pr c) 19) 0 () ∗ dutyTok ER (cell (pr c) 20) 0 () ∗ dutyTok ER (cell c 1) 1 () ∗ dutyTok ER (cell c 2) 1 () ∗ dutyTok ER (cell c 3) 1 () ∗ dutyTok ER (cell c 4) 1 ()) :=
  bigSep_univ_eq_bigSepL [0, 1, 2, 3, 4, 5, 6, 7, 8, 9, 10, 11, 12, 13, 14, 15, 16, 17, 18, 19, 20, 21, 22, 23, 24] (by decide) (by decide) _

/-- and the contributions its partner is to make. -/
def wtK (j : Fin 9) : Fin 21 := if j.val = 0 then 0 else if h : j.val < 5 then ⟨j.val + 8, by omega⟩ else ⟨j.val + 12, by omega⟩
def creds : sProp 𝕄 := bigSep Finset.univ fun j : Fin 9 => cred (tallyAt (cell c (wtK j)) () (amt (wtK j)))
theorem creds_eq : (creds c : sProp 𝕄) = iprop(cred (tallyAt (cell c 0) () (amt 0)) ∗ cred (tallyAt (cell c 9) () (amt 9)) ∗ cred (tallyAt (cell c 10) () (amt 10)) ∗ cred (tallyAt (cell c 11) () (amt 11)) ∗ cred (tallyAt (cell c 12) () (amt 12)) ∗ cred (tallyAt (cell c 17) () (amt 17)) ∗ cred (tallyAt (cell c 18) () (amt 18)) ∗ cred (tallyAt (cell c 19) () (amt 19)) ∗ cred (tallyAt (cell c 20) () (amt 20))) :=
  bigSep_univ_eq_bigSepL [0, 1, 2, 3, 4, 5, 6, 7, 8] (by decide) (by decide) _

end Cut

section Ends
variable (g : Args F) (K : GSem nD τ sig → ℕ) (c : Dev nD)

/-- What the body starts from. -/
def before : sProp 𝕄 :=
  iprop(scr c ∗ (keyB g c ∗ xB g c ∗ (∃ f, oM.view.loc (c : Thread nD τ) ↦{fullShare} f)) ∗ (AM.view.loc (c : Thread nD τ) ↦{fullShare} g.A c)
    ∗ (BM.view.loc (c : Thread nD τ) ↦{fullShare} g.B c) ∗ posn c ∗ opened c ∗ duty c ∗ creds c ∗ atPos ER (cell c kB) 0 ∅ 0
    ∗ reached ER (cell (pr c) kB) 0 ∗ ow c (O₀ c))

set_option maxHeartbeats 4000000 in
set_option maxRecDepth 65536 in
theorem enter : before g c ⊢ entry g c := by
  unfold before scr entry
  rw [posn_eq, opened_eq, duty_eq, creds_eq, A_eq, B_eq]
  iintro ⟨⟨Hs, Hr, Hf, Ht, Ha, Hb⟩, ⟨Hk, Hx, Ho⟩, ⟨A0, A1, A2, A3⟩, ⟨B0, B1, B2, B3⟩, ⟨P1, P2, P3, P4, P5, P6, P7, P8, P9, P10, P11, P12, P13, P14, P15, P16, P17, P18, P19, P20⟩, ⟨#R1, #R2, #R3, #R4, #R5, #R6, #R7, #R8, #R9, #R10, #R11, #R12, #R13, #R14, #R15, #R16, #R17, #R18, #R19, #R20⟩, ⟨D0_0, D1_0, D2_0, D3_0, D4_0, D5_0, D6_0, D7_0, D8_0, D9_0, D10_0, D11_0, D12_0, D13_0, D14_0, D15_0, D16_0, D17_0, D18_0, D19_0, D20_0, D1_1, D2_1, D3_1, D4_1⟩, ⟨C0, C9, C10, C11, C12, C17, C18, C19, C20⟩, P0, #R0, Hw⟩
  ihave Hs := (slots_any c sM (by exact View.set_whole _)) $$ Hs
  icases Hs with ⟨S0, S1, S2, S3⟩
  ihave Hr := (slots_any c rM (by exact View.set_whole _)) $$ Hr
  icases Hr with ⟨V0, V1, V2, V3⟩
  ihave Hf := (flat_any c) $$ Hf
  icases Hf with ⟨L0, L1, L2, L3, L4, L5, L6, L7⟩
  ihave Ht := (back_any c) $$ Ht
  icases Ht with ⟨T0, T1, T2, T3⟩
  ihave Ho := (out_any c) $$ Ho
  icases Ho with ⟨O0, O1, O2, O3, O4, O5, O6, O7⟩
  ihave Ha := (a_any c) $$ Ha
  icases Ha with ⟨a0, a1⟩
  ihave Hb := (b_any c) $$ Hb
  icases Hb with ⟨b0, b1⟩
  isplitl [P1 D1_0 a0 A0]
  · unfold idleA
    isplitl [P1]
    · iexact P1
    isplitl [D1_0]
    · unfold rdy
      isplitl [D1_0]
      · iexact D1_0
      iexact R1
    isplitl [a0]
    · iexact a0
    iexact A0
  isplitl [P3 D3_0 b0 B0]
  · unfold idleB
    isplitl [P3]
    · iexact P3
    isplitl [D3_0]
    · unfold rdy
      isplitl [D3_0]
      · iexact D3_0
      iexact R3
    isplitl [b0]
    · iexact b0
    iexact B0
  isplitl [P2 D2_0 a1 A1]
  · unfold idleA
    isplitl [P2]
    · iexact P2
    isplitl [D2_0]
    · unfold rdy
      isplitl [D2_0]
      · iexact D2_0
      iexact R2
    isplitl [a1]
    · iexact a1
    iexact A1
  isplitl [P4 D4_0 b1 B1]
  · unfold idleB
    isplitl [P4]
    · iexact P4
    isplitl [D4_0]
    · unfold rdy
      isplitl [D4_0]
      · iexact D4_0
      iexact R4
    isplitl [b1]
    · iexact b1
    iexact B1
  isplitl [D1_1 A2]
  · unfold nextA
    isplitl [D1_1]
    · iexact D1_1
    iexact A2
  isplitl [D2_1 A3]
  · unfold nextA
    isplitl [D2_1]
    · iexact D2_1
    iexact A3
  isplitl [D3_1 B2]
  · unfold nextB
    isplitl [D3_1]
    · iexact D3_1
    iexact B2
  isplitl [D4_1 B3]
  · unfold nextB
    isplitl [D4_1]
    · iexact D4_1
    iexact B3
  isplitl [Hw]
  · iexact Hw
  isplitl [D0_0]
  · unfold rdy
    isplitl [D0_0]
    · iexact D0_0
    iexact R0
  isplitl [V0 V1 V2 V3 L4 L5 L6 L7]
  · unfold barPay
    rw [pr_pr]
    unfold winAny
    isplitl [V0 V1 V2 V3]
    · isplitl [V0]
      · iexact V0
      isplitl [V1]
      · iexact V1
      isplitl [V2]
      · iexact V2
      iexact V3
    isplitl [L4 L5 L6 L7]
    · isplitl [L4]
      · iexact L4
      isplitl [L5]
      · iexact L5
      isplitl [L6]
      · iexact L6
      iexact L7
    isplitr
    · isplitr
      · iexact R9
      isplitr
      · iexact R10
      isplitr
      · iexact R11
      iexact R12
    isplitr
    · iexact R17
    isplitr
    · iexact R18
    isplitr
    · iexact R19
    iexact R20
  isplitl [C0 P0]
  · unfold wt
    isplitl [C0]
    · iexact C0
    iexact P0
  isplitl [Hk]
  · iexact Hk
  isplitl [Hx]
  · iexact Hx
  isplitl [C9 P9]
  · unfold wt
    isplitl [C9]
    · iexact C9
    iexact P9
  isplitl [C10 P10]
  · unfold wt
    isplitl [C10]
    · iexact C10
    iexact P10
  isplitl [C11 P11]
  · unfold wt
    isplitl [C11]
    · iexact C11
    iexact P11
  isplitl [C12 P12]
  · unfold wt
    isplitl [C12]
    · iexact C12
    iexact P12
  isplitl [C17 P17]
  · unfold wt
    isplitl [C17]
    · iexact C17
    iexact P17
  isplitl [C18 P18]
  · unfold wt
    isplitl [C18]
    · iexact C18
    iexact P18
  isplitl [C19 P19]
  · unfold wt
    isplitl [C19]
    · iexact C19
    iexact P19
  isplitl [C20 P20]
  · unfold wt
    isplitl [C20]
    · iexact C20
    iexact P20
  isplitl [D5_0 P5 D9_0]
  · unfold kit1
    isplitl [D5_0]
    · unfold rdy
      isplitl [D5_0]
      · iexact D5_0
      iexact R5
    isplitl [P5]
    · iexact P5
    iexact D9_0
  isplitl [D6_0 P6 D10_0]
  · unfold kit1
    isplitl [D6_0]
    · unfold rdy
      isplitl [D6_0]
      · iexact D6_0
      iexact R6
    isplitl [P6]
    · iexact P6
    iexact D10_0
  isplitl [D7_0 P7 D11_0]
  · unfold kit1
    isplitl [D7_0]
    · unfold rdy
      isplitl [D7_0]
      · iexact D7_0
      iexact R7
    isplitl [P7]
    · iexact P7
    iexact D11_0
  isplitl [D8_0 P8 D12_0]
  · unfold kit1
    isplitl [D8_0]
    · unfold rdy
      isplitl [D8_0]
      · iexact D8_0
      iexact R8
    isplitl [P8]
    · iexact P8
    iexact D12_0
  isplitl [D13_0 P13 D17_0]
  · unfold kit2
    isplitl [D13_0]
    · unfold rdy
      isplitl [D13_0]
      · iexact D13_0
      iexact R13
    isplitl [P13]
    · iexact P13
    iexact D17_0
  isplitl [D14_0 P14 D18_0]
  · unfold kit2
    isplitl [D14_0]
    · unfold rdy
      isplitl [D14_0]
      · iexact D14_0
      iexact R14
    isplitl [P14]
    · iexact P14
    iexact D18_0
  isplitl [D15_0 P15 D19_0]
  · unfold kit2
    isplitl [D15_0]
    · unfold rdy
      isplitl [D15_0]
      · iexact D15_0
      iexact R15
    isplitl [P15]
    · iexact P15
    iexact D19_0
  isplitl [D16_0 P16 D20_0]
  · unfold kit2
    isplitl [D16_0]
    · unfold rdy
      isplitl [D16_0]
      · iexact D16_0
      iexact R16
    isplitl [P16]
    · iexact P16
    iexact D20_0
  isplitl [S0]
  · iexact S0
  isplitl [S1]
  · iexact S1
  isplitl [S2]
  · iexact S2
  isplitl [S3]
  · iexact S3
  isplitl [T0]
  · iexact T0
  isplitl [T1]
  · iexact T1
  isplitl [T2]
  · iexact T2
  isplitl [T3]
  · iexact T3
  isplitl [L0]
  · iexact L0
  isplitl [L1]
  · iexact L1
  isplitl [L2]
  · iexact L2
  isplitl [L3]
  · iexact L3
  isplitl [O0]
  · iexact O0
  isplitl [O1]
  · iexact O1
  isplitl [O2]
  · iexact O2
  isplitl [O3]
  · iexact O3
  isplitl [O4]
  · iexact O4
  isplitl [O5]
  · iexact O5
  isplitl [O6]
  · iexact O6
  iexact O7

/-- A cell at its end is closed. -/
theorem shut (k : Fin 21) (R : ℕ) (h : rnds k ≤ R) : Inv g K ⊢ iprop(atPos ER (cell c k) R ∅ 0 -∗ |={Set.univ}=> semVal (cell c k) 0 : sProp 𝕄) := by
  iintro #HI Ha
  ihave #Hc := (Inv_get g K c k) $$ HI
  imod (Rounds.cell_close ER (Rd g) (Set.mem_univ (K (cell c k))) (fun h => h) (R := R) (fun r hr => duties_done g c k r (le_trans h hr))) $$ [Ha] with Hz
  · isplitr; · iexact Hc
    iexact Ha
  imodintro
  iexact Hz

/-- What the body ends with. -/
def after : sProp 𝕄 :=
  iprop(scr c ∗ (keyB g c ∗ xB g c ∗ (oM.view.loc (c : Thread nD τ) ↦{fullShare} g.out3 c)) ∗ (AM.view.loc (c : Thread nD τ) ↦{fullShare} g.A c)
    ∗ (BM.view.loc (c : Thread nD τ) ↦{fullShare} g.B c) ∗ (bigSep Finset.univ fun k : Fin 20 => semVal (cell c k.succ) 0)
    ∗ semVal (cell c kB) 0 ∗ ow c 0)

set_option maxHeartbeats 4000000 in
set_option maxRecDepth 65536 in
theorem finish : env g K ⊢ iprop(leave g c -∗ |={Set.univ}=> after g c : sProp 𝕄) := by
  unfold env leave after scr fullA fullB gotS1 gotS2 gotR1
  rw [bigSep_twenty, A_eq, B_eq, out_eq]
  iintro ⟨#HI, -⟩ ⟨Hw, Hk, Hx, P0, ⟨P1, -, a0, A2⟩, ⟨P2, -, a1, A3⟩, ⟨P3, -, b0, B2⟩, ⟨P4, -, b1, B3⟩, ⟨P5, S0⟩, ⟨P6, S1⟩, ⟨P7, S2⟩, ⟨P8, S3⟩, ⟨P13, T0⟩, ⟨P14, T1⟩, ⟨P15, T2⟩, ⟨P16, T3⟩, F0, F1, O0, O1, O2, O3, O4, O5, O6, O7, ⟨P9, V0⟩, ⟨P10, V1⟩, ⟨P11, V2⟩, ⟨P12, V3⟩, P17, P18, P19, P20, F2, A0, A1, B0, B1⟩
  imod (shut g K c kB 1 (by decide)) $$ HI P0 with P0
  imod (shut g K c (kA 0) (((1 : Fin 2) : ℕ) + 1) (by decide)) $$ HI P1 with P1
  imod (shut g K c (kA 1) (((1 : Fin 2) : ℕ) + 1) (by decide)) $$ HI P2 with P2
  imod (shut g K c (kW 0) (((1 : Fin 2) : ℕ) + 1) (by decide)) $$ HI P3 with P3
  imod (shut g K c (kW 1) (((1 : Fin 2) : ℕ) + 1) (by decide)) $$ HI P4 with P4
  imod (shut g K c (kS1 0) 1 (by decide)) $$ HI P5 with P5
  imod (shut g K c (kS1 1) 1 (by decide)) $$ HI P6 with P6
  imod (shut g K c (kS1 2) 1 (by decide)) $$ HI P7 with P7
  imod (shut g K c (kS1 3) 1 (by decide)) $$ HI P8 with P8
  imod (shut g K c (kR1 0) 1 (by decide)) $$ HI P9 with P9
  imod (shut g K c (kR1 1) 1 (by decide)) $$ HI P10 with P10
  imod (shut g K c (kR1 2) 1 (by decide)) $$ HI P11 with P11
  imod (shut g K c (kR1 3) 1 (by decide)) $$ HI P12 with P12
  imod (shut g K c (kS2 0) 1 (by decide)) $$ HI P13 with P13
  imod (shut g K c (kS2 1) 1 (by decide)) $$ HI P14 with P14
  imod (shut g K c (kS2 2) 1 (by decide)) $$ HI P15 with P15
  imod (shut g K c (kS2 3) 1 (by decide)) $$ HI P16 with P16
  imod (shut g K c (kR2 0) 1 (by decide)) $$ HI P17 with P17
  imod (shut g K c (kR2 1) 1 (by decide)) $$ HI P18 with P18
  imod (shut g K c (kR2 2) 1 (by decide)) $$ HI P19 with P19
  imod (shut g K c (kR2 3) 1 (by decide)) $$ HI P20 with P20
  imodintro
  isplitl [S0 S1 S2 S3 V0 V1 V2 V3 F0 F1 F2 T0 T1 T2 T3 a0 a1 b0 b1]
  · isplitl [S0 S1 S2 S3]
    · iexists _
      iapply (Entails.of_eq (slots_eq c sM (by exact View.set_whole _) (g.sendC c)).symm)
      isplitl [S0]
      · iexact S0
      isplitl [S1]
      · iexact S1
      isplitl [S2]
      · iexact S2
      iexact S3
    isplitl [V0 V1 V2 V3]
    · iexists _
      iapply (Entails.of_eq (slots_eq c rM (by exact View.set_whole _) (g.recvC c)).symm)
      isplitl [V0]
      · iexact V0
      isplitl [V1]
      · iexact V1
      isplitl [V2]
      · iexact V2
      iexact V3
    isplitl [F0 F1 F2]
    · iexists _
      iapply (Entails.of_eq (thirds_eq c (g.flatC c)).symm)
      isplitl [F0]
      · iexact F0
      isplitl [F1]
      · iexact F1
      iexact F2
    isplitl [T0 T1 T2 T3]
    · iexists _
      iapply (Entails.of_eq (back_eq c (g.backC c)).symm)
      isplitl [T0]
      · iexact T0
      isplitl [T1]
      · iexact T1
      isplitl [T2]
      · iexact T2
      iexact T3
    isplitl [a0 a1]
    · iexists _
      iapply (Entails.of_eq (a_eq c (g.aC c 1)).symm)
      isplitl [a0]
      · iexact a0
      iexact a1
    iexists _
    iapply (Entails.of_eq (b_eq c (g.bC c 1)).symm)
    isplitl [b0]
    · iexact b0
    iexact b1
  isplitl [Hk Hx O0 O1 O2 O3 O4 O5 O6 O7]
  · isplitl [Hk]
    · iexact Hk
    isplitl [Hx]
    · iexact Hx
    isplitl [O0]
    · iexact O0
    isplitl [O1]
    · iexact O1
    isplitl [O2]
    · iexact O2
    isplitl [O3]
    · iexact O3
    isplitl [O4]
    · iexact O4
    isplitl [O5]
    · iexact O5
    isplitl [O6]
    · iexact O6
    iexact O7
  isplitl [A0 A1 A2 A3]
  · isplitl [A0]
    · iexact A0
    isplitl [A1]
    · iexact A1
    isplitl [A2]
    · iexact A2
    iexact A3
  isplitl [B0 B1 B2 B3]
  · isplitl [B0]
    · iexact B0
    isplitl [B1]
    · iexact B1
    isplitl [B2]
    · iexact B2
    iexact B3
  isplitl [P1 P2 P3 P4 P5 P6 P7 P8 P9 P10 P11 P12 P13 P14 P15 P16 P17 P18 P19 P20]
  · isplitl [P1]
    · iexact P1
    isplitl [P2]
    · iexact P2
    isplitl [P3]
    · iexact P3
    isplitl [P4]
    · iexact P4
    isplitl [P5]
    · iexact P5
    isplitl [P6]
    · iexact P6
    isplitl [P7]
    · iexact P7
    isplitl [P8]
    · iexact P8
    isplitl [P9]
    · iexact P9
    isplitl [P10]
    · iexact P10
    isplitl [P11]
    · iexact P11
    isplitl [P12]
    · iexact P12
    isplitl [P13]
    · iexact P13
    isplitl [P14]
    · iexact P14
    isplitl [P15]
    · iexact P15
    isplitl [P16]
    · iexact P16
    isplitl [P17]
    · iexact P17
    isplitl [P18]
    · iexact P18
    isplitl [P19]
    · iexact P19
    iexact P20
  isplitl [P0]
  · iexact P0
  iexact Hw

end Ends

end Cert.Moe

end
-- ==== Proof.Region.lean ====
/-
# The kernel's call

The body's run as the one point of the call's pipeline, and the call as a step of the program: from every
unscoped buffer at the contents the host operations left to the same with the result's written.
-/
module

public import proofs.«01_k».proof.Proof.Ends
public import proofs.«01_k».proof.Proof.Gen.KernelIdeal.Regions
public import proofs.«01_k».proof.Proof.Gen.KernelIdeal.Points
public import Idealize.ShloMosaic.Lib.Pipeline.RegionTalk

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (l : Loc nD τ sig) → Buf (Elt F) l)

/-- What the body finds: the tokens, the keys and the weights, as the host operations left them. -/
def argsOf : Args F := ⟨fun c => V5 m c main_arg0, fun c => V5 m c main_v18, fun c => V5 m c main_arg2, fun c => V5 m c main_arg3⟩

/-- What the call leaves in its result. -/
def outs : Outs (F := F) := fun _ r c => Function.update (fun r : Ref sig .tc => (V5 m c r : Buf (Elt F) ((c : Thread nD τ).loc r))) main_v19 ((argsOf m).out3 c) r

theorem outs_v19 (c : Dev nD) : outs m 6 main_v19 c = (argsOf m).out3 c := by unfold outs; exact Function.update_self _ _ _

section Region
variable (c : Dev nD)

/-- The part of the launch's ghost state a device holds until the call, -/
def Tk : sProp 𝕄 :=
  iprop(∃ K, env (argsOf m) K ∗ atPos ER (cell c kB) 0 ∅ 0 ∗ reached ER (cell (pr c) kB) 0
    ∗ (bigSep Finset.univ fun k : Fin 20 => openTok ER (cell c k.succ)) ∗ duty c ∗ creds c)
/-- in the call, -/
def Xk : sProp 𝕄 :=
  iprop(∃ K, env (argsOf m) K ∗ atPos ER (cell c kB) 0 ∅ 0 ∗ reached ER (cell (pr c) kB) 0 ∗ posn c ∗ opened c ∗ duty c ∗ creds c)
/-- and after it. -/
def Yk : sProp 𝕄 := semVal (cell c kB) 0

/-- The semaphores the call brings: all but the barrier. -/
abbrev osem1 (k : Fin 20) : SemLoc sig := osem k.succ

/-- Something persistent serves every one of several. -/
theorem each {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono h

theorem opening (K : GSem nD τ sig → ℕ) :
    Inv (argsOf m) K ⊢ iprop((bigSep Finset.univ fun k : Fin 20 => openTok ER (cell c k.succ)) -∗ (bigSep Finset.univ fun k : Fin 20 => semVal (cell c k.succ) 0)
      -∗ |={Set.univ}=> (posn c ∗ opened c) : sProp 𝕄) := by
  have h1 (k : Fin 20) : iprop(Inv (argsOf m) K ∗ (openTok ER (cell c k.succ) ∗ semVal (cell c k.succ) 0))
      ⊢ (iprop(|={Set.univ}=> (atPos ER (cell c k.succ) 0 ∅ 0 ∗ reached ER (cell c k.succ) 0)) : sProp 𝕄) := by
    iintro ⟨#HI, Ho, Hs⟩
    ihave #Hc := (Inv_get (argsOf m) K c k.succ) $$ HI
    iapply (Rounds.cell_open ER (Rd (argsOf m)) (g := cell c k.succ) (Set.mem_univ (K (cell c k.succ))))
    isplitr; · iexact Hc
    isplitl [Ho] <;> iassumption
  have h2 := each (S := (Finset.univ : Finset (Fin 20))) fun k _ => h1 k
  iintro #HI Ho Hs
  ihave H := h2 $$ [Ho Hs]
  · isplitr; · iexact HI
    rw [bigSep_sep']
    isplitl [Ho] <;> iassumption
  imod (bigSep_fupd (Finset.univ : Finset (Fin 20)) fun k => iprop(atPos ER (cell c k.succ) 0 ∅ 0 ∗ reached ER (cell c k.succ) 0)) $$ H with H
  imodintro
  unfold posn opened
  rw [← bigSep_sep']
  iexact H

theorem hopen1 : iprop(Tk m c ∗ Pipeline.ownSems0 osem1 c ∗ levAts L lv) ⊢ (|={Set.univ}=> Xk m c : sProp 𝕄) := by
  unfold Tk Xk Pipeline.ownSems0 env
  iintro ⟨⟨%K, ⟨#HI, #Hl⟩, Hb, Hr, Ho, Hd, Hc⟩, Hs, -⟩
  imod (opening m c K) $$ HI Ho Hs with ⟨Hp, Hq⟩
  imodintro
  iexists K
  isplitr
  · isplitr; · iexact HI
    iexact Hl
  isplitl [Hb]; · iexact Hb
  isplitl [Hr]; · iexact Hr
  isplitl [Hp]; · iexact Hp
  isplitl [Hq]; · iexact Hq
  isplitl [Hd] <;> iassumption

/-- The call's state before its point, -/
def phi0 : sProp 𝕄 :=
  iprop(scr c ∗ (∃ r, prngReg c r) ∗ (AM.view.loc (c : Thread nD τ) ↦{fullShare} (argsOf m).A c) ∗ (BM.view.loc (c : Thread nD τ) ↦{fullShare} (argsOf m).B c) ∗ Xk m c)
/-- and after. -/
def phi1 : sProp 𝕄 :=
  iprop(scr c ∗ (∃ r, prngReg c r) ∗ ((AM.view.loc (c : Thread nD τ) ↦{fullShare} (argsOf m).A c) ∗ (BM.view.loc (c : Thread nD τ) ↦{fullShare} (argsOf m).B c))
    ∗ (bigSep Finset.univ fun k : Fin 20 => semVal (cell c k.succ) 0) ∗ semVal (cell c kB) 0)

end Region

def dat (c : Dev nD) : Dat τ (Elt F) Unit ℕ UU ℕ cfg0 c where
  A w := V5 m c ((cfg0.win w).arr.view.loc (c : Thread nD τ)).2
  after w _ := match w with
    | ⟨0, _⟩ => (argsOf m).x c
    | ⟨1, _⟩ => (argsOf m).k c
    | ⟨2, _⟩ => (argsOf m).out3 c
  Φ t := if t.val = 0 then phi0 m c else phi1 m c
  q _ := fullShare
  owed t := if t.val = 0 then O₀ c else 0

abbrev dats (_ : Fin 1) (c : Dev nD) : Dat τ (Elt F) Unit ℕ UU ℕ cfg0 c := dat m c

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def t₀ : Fin cfg0.N := ⟨0, by decide⟩
theorem fin_N (t : Fin cfg0.N) : t = t₀ := by
  obtain ⟨t, ht⟩ := t
  have h : cfg0.N = 1 := by decide
  exact Fin.ext (by simp only [t₀]; omega)

theorem owed_first (c : Dev nD) : (dat (F := F) m c).owed 0 = O₀ c := rfl
theorem owed_last (c : Dev nD) : (dat (F := F) m c).owed (Fin.last _) = 0 := rfl

/-- What the pipeline hands the body, -/
def bodyPre (c : Dev nD) : sProp 𝕄 :=
  iprop(phi0 m c ∗ (dat m c).owesAt () t₀.castSucc
    ∗ (∃ d, stg c cc0_stg0_0 ((dat m c).before (0 : Fin 3) t₀ d))
    ∗ (∃ d, stg c cc0_stg1_0 ((dat m c).before (1 : Fin 3) t₀ d))
    ∗ (∃ d, stg c cc0_stg2_0 ((dat m c).before (2 : Fin 3) t₀ d)))
/-- and what it wants back. -/
def bodyPost (c : Dev nD) : sProp 𝕄 :=
  iprop(phi1 m c ∗ (dat m c).owesAt () t₀.succ ∗ stg c cc0_stg0_0 ((argsOf m).x c) ∗ stg c cc0_stg1_0 ((argsOf m).k c) ∗ stg c cc0_stg2_0 ((argsOf m).out3 c))

theorem found0 {c : Dev nD} (D : Dat τ (Elt F) Unit ℕ UU ℕ cfg0 c) (d) : D.before (0 : Fin 3) t₀ d = D.A (0 : Fin 3) := by
  unfold Dat.before; rw [if_pos (fetch0_0 t₀)]
  exact Memref.readAt_unit_zero (Elt F) main_arg0 (by funext a; fin_cases a <;> rfl) _ (D.A (0 : Fin 3))
theorem found1 {c : Dev nD} (D : Dat τ (Elt F) Unit ℕ UU ℕ cfg0 c) (d) : D.before (1 : Fin 3) t₀ d = D.A (1 : Fin 3) := by
  unfold Dat.before; rw [if_pos (fetch0_1 t₀)]
  exact Memref.readAt_unit_zero (Elt F) main_v18 (by funext a; fin_cases a <;> rfl) _ (D.A (1 : Fin 3))

theorem to_before (c : Dev nD) : bodyPre m c ⊢ (iprop(∃ K, env (argsOf m) K ∗ before (argsOf m) c ∗ ∃ r, prngReg c r) : sProp 𝕄) := by
  unfold bodyPre phi0 Xk before ow
  iintro ⟨⟨Hs, Hp, HA, HB, ⟨%K, HE, Hb, Hr, Hpo, Hop, Hd, Hc⟩⟩, HO, ⟨%d0, %g0, %hg0, Hx⟩, ⟨%d1, %g1, %hg1, Hk⟩, ⟨%d2, %g2, -, Ho⟩⟩
  have hx : g0 = (argsOf m).x c := hg0.trans (found0 (dat m c) d0)
  have hk : g1 = (argsOf m).k c := hg1.trans (found1 (dat m c) d1)
  subst hx hk
  unfold Dat.owesAt Pipeline.owesWithin
  rw [show (dat m c).owed t₀.castSucc = O₀ c from rfl]
  icases HO with ⟨%W, -, HO⟩
  iexists K
  isplitl [HE]; · iexact HE
  isplitr [Hp]
  · isplitl [Hs]; · iexact Hs
    isplitl [Hk Hx Ho]
    · isplitl [Hk]; · unfold keyB; iexact Hk
      isplitl [Hx]; · unfold xB; iexact Hx
      iexists g2; iexact Ho
    isplitl [HA]; · iexact HA
    isplitl [HB]; · iexact HB
    isplitl [Hpo]; · iexact Hpo
    isplitl [Hop]; · iexact Hop
    isplitl [Hd]; · iexact Hd
    isplitl [Hc]; · iexact Hc
    isplitl [Hb]; · iexact Hb
    isplitl [Hr]; · iexact Hr
    iexists W; iexact HO
  iexact Hp

theorem of_after (c : Dev nD) : iprop(after (argsOf m) c ∗ ∃ r, prngReg c r) ⊢ (bodyPost m c : sProp 𝕄) := by
  unfold bodyPost phi1 after ow
  iintro ⟨⟨Hs, ⟨Hk, Hx, Ho⟩, HA, HB, Hz, Hb, ⟨%W, HO⟩⟩, Hp⟩
  isplitl [Hs HA HB Hz Hb Hp]
  · isplitl [Hs]; · iexact Hs
    isplitl [Hp]; · iexact Hp
    isplitl [HA HB]; · isplitl [HA] <;> iassumption
    isplitl [Hz] <;> iassumption
  isplitl [HO]
  · unfold Dat.owesAt Pipeline.owesWithin
    rw [show (dat m c).owed t₀.succ = 0 from rfl]
    iexists W
    isplitr; · ipureintro; exact fun _ _ => Or.inl trivial
    iexact HO
  isplitl [Hx]
  · iexists _; isplitr; · (ipureintro; rfl)
    unfold xB; iexact Hx
  isplitl [Hk]
  · iexists _; isplitr; · (ipureintro; rfl)
    unfold keyB; iexact Hk
  iexists _; isplitr; · (ipureintro; rfl)
  iexact Ho

set_option maxRecDepth 8000 in
theorem body_obligation (c : Dev nD) : BodyObligation (dat (F := F) m c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ
    (cc0__moe_body xM (Memref.isWhole_whole _) kM (Memref.isWhole_whole _) AM (Memref.isWhole_whole _) BM (Memref.isWhole_whole _) oM (Memref.isWhole_whole _) sM (Memref.isWhole_whole _) rM (Memref.isWhole_whole _) fM (Memref.isWhole_whole _) tM (Memref.isWhole_whole _) aM (Memref.isWhole_whole _) bM (Memref.isWhole_whole _) cc0_scratch6 cc0_scratch7 cc0_scratch8 cc0_scratch9 cc0_scratch10 cc0_scratch11) (fun _ => bodyPost m c)
  refine (to_before m c).trans ?_
  iintro ⟨%K, #HE, Hb, Hp⟩
  ihave He := (enter (argsOf m) c) $$ Hb
  iapply wp_fupd
  iapply (body_run (argsOf m) K c (Q := fun _ => iprop(|={Set.univ}=> bodyPost m c))) $$ HE He
  iintro Hl
  imod (finish (argsOf m) K c) $$ HE Hl with Ha
  imodintro
  iapply (of_after m c)
  isplitl [Ha] <;> iassumption

end Cert.Moe

end
-- ==== Proof.Run.lean ====
/-
# The program's run

The launch makes every cell, deals each device what it needs until the call, and the program runs as five host
stretches and the call. At the end every argument is as launched, the result holds the combined rows, and every
counter is back at zero.
-/
module

public import proofs.«01_k».proof.Proof.Region

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

section Call
variable (m : (l : Loc nD τ sig) → Buf (Elt F) l)

/-- The buffers the body addresses itself. -/
abbrev Hs : Finset (DevRef τ sig) := {Proc.devRef .tc main_arg2, Proc.devRef .tc main_arg3}
/-- The unscoped buffers no window is on. -/
abbrev Sr : Finset (DevRef τ sig) := Pipeline.ucRefs τ sig \ Pipeline.arrRefs (τ := τ) spec0

theorem uc_mem (r : Ref sig .tc) (h : (Proc.devRef (τ := τ) .tc r).isScoped = false) : Proc.devRef .tc r ∈ Pipeline.ucRefs τ sig :=
  Finset.mem_filter.mpr ⟨StableHlo.devRef_mem_tcRefs r, by simpa using h⟩

theorem arr_sub : Pipeline.arrRefs (τ := τ) spec0 ⊆ Pipeline.ucRefs τ sig := by
  intro b hb
  obtain ⟨r, hr, rfl⟩ := Finset.mem_map.mp hb
  obtain ⟨w, -, rfl⟩ := Finset.mem_image.mp hr
  fin_cases w
  · exact Finset.mem_filter.mpr ⟨StableHlo.devRef_mem_tcRefs main_arg0, by decide⟩
  · exact Finset.mem_filter.mpr ⟨StableHlo.devRef_mem_tcRefs main_v18, by decide⟩
  · exact Finset.mem_filter.mpr ⟨StableHlo.devRef_mem_tcRefs main_v19, by decide⟩

theorem Hs_sub : Hs ⊆ Sr := by
  intro b hb
  rcases Finset.mem_insert.mp hb with rfl | hb
  · exact Finset.mem_sdiff.mpr ⟨Finset.mem_filter.mpr ⟨StableHlo.devRef_mem_tcRefs main_arg2, by decide⟩, by decide⟩
  · rw [Finset.mem_singleton] at hb
    subst hb
    exact Finset.mem_sdiff.mpr ⟨Finset.mem_filter.mpr ⟨StableHlo.devRef_mem_tcRefs main_arg3, by decide⟩, by decide⟩

theorem v19_arr : Proc.devRef .tc main_v19 ∈ Pipeline.arrRefs (τ := τ) spec0 := by decide

theorem hrest (c : Dev nD) : ∀ b ∈ Sr \ Hs, V6 m (outs m) c b = V5 m c b := by
  intro b hb
  have h : b ≠ Proc.devRef .tc main_v19 := by
    rintro rfl
    exact (Finset.mem_sdiff.mp (Finset.mem_sdiff.mp hb).1).2 v19_arr
  exact Function.update_of_ne h _ _

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownSemFacts : Pipeline.OwnSemFacts spec0 osem1 := by decide

theorem held_Hs (c : Dev nD) (V : Valuation τ sig (Elt F)) :
    (StableHlo.held (c.tc : Thread nD τ) Hs V : sProp 𝕄)
      = iprop((AM.view.loc (c : Thread nD τ) ↦{fullShare} V main_arg2) ∗ (BM.view.loc (c : Thread nD τ) ↦{fullShare} V main_arg3)) := by
  unfold StableHlo.held
  rw [bigSep_insert (by decide), bigSep_singleton]
  rfl

theorem hin0 (c : Dev nD) : iprop(Pipeline.scopedRest (Pipeline.pin (pcfgs (F := F)) adm 0).spec c ∗ (∃ r, prngReg c r) ∗ StableHlo.held (c.tc : Thread nD τ) Hs (V5 m c) ∗ Xk m c)
    ⊢ (dats m 0 c).Φ 0 := by
  rw [show (dats m 0 c).Φ 0 = phi0 m c from rfl, held_Hs,
    show (Pipeline.scopedRest (Pipeline.pin (pcfgs (F := F)) adm 0).spec c : sProp 𝕄) = scr c from scopedRest0_eq c]
  unfold phi0
  iintro ⟨Hs, Hp, ⟨HA, HB⟩, HX⟩
  isplitl [Hs]; · iexact Hs
  isplitl [Hp]; · iexact Hp
  isplitl [HA]; · iexact HA
  isplitl [HB]; · iexact HB
  iexact HX

theorem V6_A (c : Dev nD) : V6 m (outs m) c main_arg2 = (argsOf m).A c := V6_of m (outs m) c main_arg2 (by decide)
theorem V6_B (c : Dev nD) : V6 m (outs m) c main_arg3 = (argsOf m).B c := V6_of m (outs m) c main_arg3 (by decide)
theorem V6_out (c : Dev nD) : V6 m (outs m) c main_v19 = (argsOf m).out3 c := (Function.update_self _ _ _).trans (outs_v19 m c)

theorem hout0 (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V6 m (outs m) c) ∗ Pipeline.ownSems0 osem1 c ∗ Yk c) := by
  rw [show (dats m 0 c).Φ (Fin.last _) = phi1 m c from rfl, held_Hs, V6_A, V6_B,
    show (Pipeline.scopedRest (Pipeline.pin (pcfgs (F := F)) adm 0).spec c : sProp 𝕄) = scr c from scopedRest0_eq c]
  exact BI.Entails.refl _

theorem arr2 {c : Dev nD} (D : Dat τ (Elt F) Unit ℕ UU ℕ cfg0 c) : D.arrAt (2 : Fin 3) cfg0.N = D.after (2 : Fin 3) t₀ := by
  have h := Dat.arrAt_succ D (2 : Fin 3) t₀
  rw [if_pos (flush0_2 t₀)] at h
  exact h.trans (Memref.write_access_unit_zero_univ (Elt F) main_v19 (by funext a; fin_cases a <;> rfl) _ _ _)

theorem hW0 (c : Dev nD) (w : Fin 3) : (dats m 0 c).arrAt w 0 = V5 m c (Proc.devRef .tc (Pipeline.arrRef spec0 w)) := by
  fin_cases w <;> rfl
theorem hW1 (c : Dev nD) (w : Fin 3) : (dats m 0 c).arrAt w cfg0.N = V6 m (outs m) c (Proc.devRef .tc (Pipeline.arrRef spec0 w)) := by
  fin_cases w
  · exact (Dat.arrAt_in (dat m c) (0 : Fin 3) rfl _).trans (V6_of m (outs m) c main_arg0 (by decide)).symm
  · exact (Dat.arrAt_in (dat m c) (1 : Fin 3) rfl _).trans (V6_of m (outs m) c main_v18 (by decide)).symm
  · exact (arr2 (dat m c)).trans (V6_out m c).symm

theorem stage_lv (w : Fin 3) (s : Fin (cfg0.win w).nbuf) : lvS (.dma ((cfg0.win w).sem s)) ≤ 0 := by
  revert s; fin_cases w <;> decide

theorem cut (c : Dev nD) (t : Fin (cfg0.N + 1)) (q : GSem nD τ sig) (i : Unit) (h : 0 < (dat (F := F) m c).owed t q i) : i ∈ L q ∧ 0 < lv q i := by
  have e : (dat (F := F) m c).owed t = if t.val = 0 then O₀ c else 0 := rfl
  rw [e] at h
  split at h
  · rcases O₀_pos h with rfl | ⟨k, rfl⟩ | ⟨k, rfl⟩
    · exact ⟨by rw [L_tc]; exact Finset.mem_singleton_self _, by rw [lv_B]; decide⟩
    · exact ⟨by rw [L_tc]; exact Finset.mem_singleton_self _, by rw [lv_R1]; decide⟩
    · exact ⟨by rw [L_tc]; exact Finset.mem_singleton_self _, by rw [lv_R2]; decide⟩
  · exact absurd h (Nat.lt_irrefl 0)

set_option backward.isDefEq.respectTransparency.types false in
/-- The call as a step of the program. -/
def reg : Pipeline.RegionSeg (pcfgs (F := F)) adm (dats m) () defs₀ 𝒱₀ L lv 0 :=
  Pipeline.RegionSeg.ofTalk (pcfgs (F := F)) adm (dats m) () defs₀ 𝒱₀ L lv 0 osem1 ownSemFacts
    Hs Sr Hs_sub kit0 rfl (fun c => (body_obligation m c).loose)
    (fun _ => 0) O₀ (fun c => (owed_first m c).trans (zero_add _).symm) (owed_last m) (fun _ => rfl)
    (fun c w => by unfold Dat.share; split <;> rfl)
    (V5 m) (V6 m (outs m)) (hrest m)
    (Tk m) Yk (Xk m) Yk (hopen1 m) (hin0 m) (hout0 m)
    (fun c => by iintro H; imodintro; iexact H)
    (fun _ => 0)
    ⟨fun c w s => by rw [L_tc]; exact Finset.mem_singleton_self _, fun c w s => stage_lv w s, fun c t q i h => cut m c t q i h⟩
    (fun _ => iprop(emp))
    (hW0 m) (hW1 m)

/-- What rides along with the buffers before the call, and after. -/
def E (i : Fin 2) (c : Dev nD) : sProp 𝕄 := match i with
  | 0 => iprop((∃ r, prngReg c r) ∗ Tk m c ∗ ∃ W, owes (c : Thread nD τ) (O₀ c) W)
  | 1 => iprop(semVal (cell c kB) 0 ∗ ∃ W, owes (c : Thread nD τ) (0 : CellTallies nD τ sig Unit) W)

theorem reg_pre (c : Dev nD) : iprop(StableHlo.held (c : Thread nD τ) (Pipeline.ucRefs τ sig) (V5 m c) ∗ E m 0 c) ⊢ (reg m).pre c := by
  show _ ⊢ iprop(StableHlo.held (c.tc : Thread nD τ) (Pipeline.arrRefs (τ := τ) spec0) (V5 m c) ∗ (∃ r, prngReg c r)
    ∗ (StableHlo.held (c.tc : Thread nD τ) Sr (V5 m c) ∗ emp) ∗ Tk m c ∗ ∃ Wd, owes (c : Thread nD τ) (0 + O₀ c) Wd)
  rw [zero_add, StableHlo.held_sub_split (c.tc : Thread nD τ) arr_sub]
  unfold E
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V6 m (outs m) c) ∗ E m 1 c) := by
  show iprop(StableHlo.held (c.tc : Thread nD τ) (Pipeline.arrRefs (τ := τ) spec0) (V6 m (outs m) c) ∗ (∃ r, prngReg c r)
    ∗ (StableHlo.held (c.tc : Thread nD τ) Sr (V6 m (outs m) c) ∗ emp) ∗ Yk c ∗ ∃ Wd, owes (c : Thread nD τ) (0 : CellTallies nD τ sig Unit) Wd) ⊢ _
  rw [StableHlo.held_sub_split (c.tc : Thread nD τ) arr_sub]
  unfold E Yk
  iintro ⟨Ha, -, ⟨Hr, -⟩, Hb, HO⟩
  isplitl [Ha Hr]
  · isplitl [Ha] <;> iassumption
  isplitl [Hb] <;> iassumption

end Call

end Cert.Moe

end
-- ==== Proof.Launch.lean ====
/-
# The launch

Every cell of every device is made at launch: the barriers in use, the transfers' still closed. Each device is
dealt its own tokens for what stays on it, and its partner's for what it sends.
-/
module

public import proofs.«01_k».proof.Proof.Run

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

theorem cell_dev {c d : Dev nD} {j k : Fin 21} (h : cell c j = cell d k) : c = d := congrArg (fun q : GSem nD τ sig => q.1.1) h
theorem cell_tag {c d : Dev nD} {j k : Fin 21} (h : cell c j = cell d k) : j = k := osem_inj (congrArg Prod.snd h)

/-- The cells in use from the launch, -/
def barEmb : Dev nD ↪ GSem nD τ sig := ⟨fun c => cell c kB, fun _ _ h => cell_dev h⟩
/-- and those the call opens. -/
def xfrEmb : Dev nD × Fin 20 ↪ GSem nD τ sig :=
  ⟨fun p => cell p.1 p.2.succ, fun _ _ h => Prod.ext (cell_dev h) (Fin.succ_injective _ (cell_tag h))⟩
abbrev barCells : Finset (GSem nD τ sig) := Finset.univ.map barEmb
abbrev xfrCells : Finset (GSem nD τ sig) := Finset.univ.map xfrEmb

theorem tok_inj (i j : Fin 25) (h : tokK i = tokK j) (h' : tokR i = tokR j) : i = j := by
  revert i j; decide
/-- Two things from everybody, and back. -/
theorem apart {Φ Ψ : Dev nD → sProp (MT nD τ sig Unit (Elt F) ℕ UU ℕ)} :
    (bigSep Finset.univ fun c => iprop(Φ c ∗ Ψ c)) ⊢ iprop(bigSep Finset.univ Φ ∗ bigSep Finset.univ Ψ) := Entails.of_eq (bigSep_sep' _ _ _)
theorem together {Φ Ψ : Dev nD → sProp (MT nD τ sig Unit (Elt F) ℕ UU ℕ)} :
    iprop(bigSep Finset.univ Φ ∗ bigSep Finset.univ Ψ) ⊢ (bigSep Finset.univ fun c => iprop(Φ c ∗ Ψ c)) := Entails.of_eq (bigSep_sep' _ _ _).symm

/-- Every contribution that will be made. -/
def tokEmb : Dev nD × Fin 25 ↪ GSem nD τ sig × ℕ × Unit :=
  ⟨fun p => (cell p.1 (tokK p.2), tokR p.2, ()), fun _ _ h =>
    Prod.ext (cell_dev (congrArg Prod.fst h)) (tok_inj _ _ (cell_tag (congrArg Prod.fst h)) (congrArg (fun x => x.2.1) h))⟩
abbrev allToks : Finset (GSem nD τ sig × ℕ × Unit) := Finset.univ.map tokEmb

theorem cells_disj : Disjoint (barCells : Finset (GSem nD τ sig)) xfrCells := by
  rw [Finset.disjoint_left]
  rintro q h₁ h₂
  obtain ⟨c, -, rfl⟩ := Finset.mem_map.mp h₁
  obtain ⟨p, -, h⟩ := Finset.mem_map.mp h₂
  exact Fin.succ_ne_zero _ (cell_tag h)

theorem cell_mem (c : Dev nD) (k : Fin 21) : cell c k ∈ (barCells ∪ xfrCells : Finset (GSem nD τ sig)) := by
  refine Fin.cases ?_ (fun k => ?_) k
  · exact Finset.mem_union_left _ (Finset.mem_map_of_mem barEmb (Finset.mem_univ c))
  · exact Finset.mem_union_right _ (Finset.mem_map_of_mem xfrEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells xfrCells allToks)

/-- All of a resource with device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells xfrCells allToks)))

section Deal
variable (g : Args F)

/-- What any device may consult. -/
def common (K : GSem nD τ sig → ℕ) : sProp 𝕄 :=
  iprop((bigSep (barCells ∪ xfrCells) fun q => cellInv ER (Rd g) (K q) q) ∗ (bigSep barCells fun q => reached ER q 0) ∗ levAts L lv)
instance common_persistent (K : GSem nD τ sig → ℕ) : BI.Persistent (common g K) := by unfold common; infer_instance

theorem common_env (K : GSem nD τ sig → ℕ) : common g K ⊢ env g K := by
  unfold common env Inv
  iintro ⟨#HI, -, #Hl⟩
  isplitr
  · iapply (show (bigSep (barCells ∪ xfrCells) fun q => (cellInv ER (Rd g) (K q) q : sProp 𝕄))
        ⊢ bigSep Finset.univ fun p : Dev nD × Fin 21 => cellInv ER (Rd g) (K (cell p.1 p.2)) (cell p.1 p.2) from
      (BI.bigSep_of_persistent (Finset.univ : Finset (Dev nD × Fin 21)) _).trans (bigSep_mono fun p _ => bigSep_elim (cell_mem p.1 p.2)))
    iexact HI
  iexact Hl

theorem common_reached (K : GSem nD τ sig → ℕ) (c : Dev nD) : common g K ⊢ reached ER (cell c kB) 0 := by
  unfold common
  iintro ⟨-, #Hr, -⟩
  iapply (show (bigSep barCells fun q => (reached ER q 0 : sProp 𝕄)) ⊢ reached ER (cell c kB) 0 from
    bigSep_elim (Finset.mem_map_of_mem barEmb (Finset.mem_univ c)))
  iexact Hr

/-- Which device makes a contribution, and to whom, traded across partners. -/
def trade : Dev nD × Fin 25 ≃ Dev nD × Fin 25 where
  toFun p := (tokD p.2 p.1, p.2)
  invFun p := (tokD p.2 p.1, p.2)
  left_inv p := Prod.ext (by show tokD p.2 (tokD p.2 p.1) = p.1; unfold tokD; split <;> simp [pr_pr]) rfl
  right_inv p := Prod.ext (by show tokD p.2 (tokD p.2 p.1) = p.1; unfold tokD; split <;> simp [pr_pr]) rfl

theorem toks_dealt : bigSep allToks (fun x => (dutyTok ER x.1 x.2.1 x.2.2 : sProp 𝕄)) = bigSep Finset.univ fun c : Dev nD => duty c := by
  unfold duty
  rw [bigSep_map, bigSep_univ_equiv trade, bigSep_univ_prod]
  rfl

/-! ### The credit of the launch -/

theorem tally_cell (c d : Dev nD) (j k : Fin 21) (n : ℕ) : tallyAt (cell (pr d) j) () n (cell c k) () = if j = k then (if d = pr c then n else 0) else 0 := by
  rw [tallyAt_apply]
  by_cases hj : j = k
  · subst hj
    by_cases h : d = pr c
    · subst h; rw [if_pos ⟨by rw [pr_pr], rfl⟩, if_pos rfl, if_pos rfl]
    · rw [if_neg (fun h' => h (by rw [cell_dev h'.1, pr_pr])), if_pos rfl, if_neg h]
  · rw [if_neg (fun h' => hj (cell_tag h'.1).symm), if_neg hj]

theorem owed_cell (d c : Dev nD) (j : Fin 9) : O₀ d (cell c (wtK j)) () = if d = pr c then amt (wtK j) else 0 := by
  unfold O₀ owe1 owe1 owe1 owe1 owe1 owe2 owe2 owe2 owe2 owe2
  simp only [Pi.add_apply, Finsupp.add_apply, tally_cell]
  have hz : (0 : CellTallies nD τ sig Unit) (cell c (wtK j)) () = 0 := rfl
  rw [hz]
  fin_cases j <;> simp (decide := true) [wtK, amt, kB, kR1, kR2]

theorem credit_cell (c : Dev nD) (j : Fin 9) :
    tallyOn (cell c (wtK j)) (launchCredit (Pipeline.owing O₀) 0 (cell c (wtK j))) = (tallyAt (cell c (wtK j)) () (amt (wtK j)) : CellTallies nD τ sig Unit) := by
  unfold tallyAt; refine congrArg _ (Finsupp.ext fun u => ?_); cases u
  rw [Pipeline.launchCredit_owing, Finsupp.single_eq_same, Finset.sum_congr rfl fun d _ => owed_cell d c j,
    Finset.sum_ite_eq' Finset.univ (pr c) fun _ => amt (wtK j), if_pos (Finset.mem_univ _)]

theorem wtK_inj (i j : Fin 9) (h : wtK i = wtK j) : i = j := by revert i j; decide
def wtEmb : Fin 9 ↪ SemLoc sig := ⟨fun j => osem (wtK j), fun i j h => wtK_inj i j (osem_inj h)⟩

theorem creds_dealt (c : Dev nD) : (Pipeline.launchCred O₀ c : sProp 𝕄) ⊢ creds c := by
  unfold Pipeline.launchCred creds
  refine BIBase.Entails.trans (bigSep_subset (Finset.subset_univ (Finset.univ.map wtEmb))) ?_
  rw [bigSep_map]
  exact bigSep_mono fun j _ => Entails.of_eq (congrArg cred (credit_cell c j))

end Deal

/-! ### The start -/

section Start
variable (m : (l : Loc nD τ sig) → Buf (Elt F) l) (ρ : Dev nD → PrngReg)

theorem barrier_only (c : Dev nD) : (unscopedSems0 c : sProp 𝕄) = semVal (cell c kB) 0 := by
  unfold unscopedSems0
  rw [show (Finset.univ.filter fun sm : SemLoc sig => ¬ sm.isScoped .tc) = {osem kB} from by decide, BI.bigSep_singleton]

/-- A device's share of the protocol, -/
def share (c : Dev nD) : sProp 𝕄 := iprop(atPos ER (cell c kB) 0 ∅ 0 ∗ (bigSep Finset.univ fun k : Fin 20 => openTok ER (cell c k.succ)) ∗ duty c)
/-- and of the machine. -/
def goods (c : Dev nD) : sProp 𝕄 :=
  iprop(StableHlo.held (c : Thread nD τ) (Pipeline.ucRefs τ sig) (V0 m c) ∗ (∃ r, prngReg c r) ∗ creds c ∗ ∃ W, owes (c : Thread nD τ) (O₀ c) W)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V6 m (outs m) c) ∗ semVal (cell c kB) 0)

theorem T₀_of (K : GSem nD τ sig → ℕ) (c : Dev nD) : iprop(common (argsOf m) K ∗ (share c ∗ goods m c)) ⊢ T₀ m c := by
  unfold share goods T₀ E Tk
  iintro ⟨#HC, ⟨Hat, Hopen, Hd⟩, Hh, Hp, Hc, HO⟩
  isplitl [Hh]; · iexact Hh
  isplitl [Hp]; · iexact Hp
  isplitr [HO]
  · iexists K
    isplitr; · iapply (common_env (argsOf m) K); iexact HC
    isplitl [Hat]; · iexact Hat
    isplitr; · iapply (common_reached (argsOf m) K (pr c)); iexact HC
    isplitl [Hopen]; · iexact Hopen
    isplitl [Hd] <;> iassumption
  iexact HO

theorem given (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(goods m c ∗ (semVal (cell c kB) 0 ∗ G c)) : sProp 𝕄) := by
  rw [show unscopedBufs c (fun b => m ((c : Thread nD τ).loc b)) = StableHlo.held (c : Thread nD τ) (Pipeline.ucRefs τ sig) (V0 m c) from
      Pipeline.unscopedBufs_held c (V0 m c), barrier_only]
  unfold goods
  iintro ⟨Hh, Hus, HO, Hcr, Hp, HG⟩
  ihave Hc := (creds_dealt (F := F) c) $$ Hcr
  isplitr [Hus HG]
  · isplitl [Hh]; · iexact Hh
    isplitl [Hp]; · iexists (ρ c); iexact Hp
    isplitl [Hc]; · iexact Hc
    iexists ∅; iexact HO
  isplitl [Hus] <;> iassumption

theorem init : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hbar : bigSep Finset.univ (fun c : Dev nD => (semVal (cell c kB) 0 : sProp 𝕄)) ⊢ bigSep barCells (fun q => (semVal q 0 : sProp 𝕄)) :=
    Entails.of_eq (bigSep_map (s := Finset.univ) barEmb (Φ := fun q : GSem nD τ sig => (semVal q 0 : sProp 𝕄))).symm
  have hat : bigSep barCells (fun q => (atPos ER q 0 ∅ 0 : sProp 𝕄)) ⊢ bigSep Finset.univ (fun c : Dev nD => (atPos ER (cell c kB) 0 ∅ 0 : sProp 𝕄)) :=
    Entails.of_eq (bigSep_map (s := Finset.univ) barEmb (Φ := fun q : GSem nD τ sig => (atPos ER q 0 ∅ 0 : sProp 𝕄)))
  have hopen : bigSep xfrCells (fun q => (openTok ER q : sProp 𝕄))
      ⊢ bigSep Finset.univ (fun c : Dev nD => (bigSep Finset.univ fun k : Fin 20 => openTok ER (cell c k.succ) : sProp 𝕄)) :=
    Entails.of_eq (by rw [bigSep_map, bigSep_univ_prod]; rfl)
  iintro ⟨H, #Hla⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(goods m c ∗ (semVal (cell c kB) 0 ∗ G c)) : sProp 𝕄) from bigSep_mono fun c _ => given m ρ c) $$ H
  ihave H2 := apart $$ H'; icases H2 with ⟨HB, H3⟩
  ihave H4 := apart $$ H3; icases H4 with ⟨Hv, HG⟩
  ihave Hu := (show bigSep Finset.univ (G (F := F)) ⊢ BI.own (ER (launchOf barCells xfrCells allToks)) from
    Entails.of_eq (bigSep_atZero (F := F) (BI.own (ER (launchOf barCells xfrCells allToks))))) $$ HG
  imod (Rounds.fund_launch ER (Rd (argsOf m)) cells_disj (fun q _ h => h) allToks) $$ [Hv Hu] with ⟨%κ, -, #Hinv, #Hr, Hat, Hopen, Htok⟩
  · isplitl [Hv]
    · iapply hbar $$ Hv
    · iexact Hu
  imodintro
  iapply (each (R := common (argsOf m) κ) (Φ := fun c => iprop(share c ∗ goods m c)) fun c _ => T₀_of m κ c)
  isplitr
  · unfold common
    isplitr; · iexact Hinv
    isplitr; · iexact Hr
    iexact Hla
  iapply together
  isplitr [HB]
  · unfold share
    iapply together; isplitl [Hat]; · iapply hat $$ Hat
    iapply together; isplitl [Hopen]; · iapply hopen $$ Hopen
    iapply (Entails.of_eq (toks_dealt (F := F))) $$ Htok
  · iexact HB

/-! ### The run -/

theorem barrier_eq : ∀ sm : SemLoc sig, sm.isScoped .tc = false → sm = osem kB := by decide

set_option backward.isDefEq.respectTransparency.types false in
/-- From any memory with zero counters, every fair execution on the mesh ends: each device's arguments are as they were,
    its result is the combination of what its own experts and its partner's made of its tokens, and every counter is at zero. -/
theorem run_main : θ_run defs (onTc (τ := τ) (main (F := F))) ⟨m, fun _ => 0, ρ⟩
    (fun r => (∀ c : Dev nD,
      r.2.mem ((c.tc : Thread nD τ).loc main_v19) = (argsOf m).out3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_regions_kit_dev_sems (pcfgs (F := F)) adm (dats m) () cellOf_inj EP defs₀ 𝒱₀ L lv m ρ main (segs m 𝒱₀ L lv (E m) () (dats m) (reg m))
    (fun c Q => by
      rewrite [main_chain c, Seg.run_eq_chain,
        show (segs m 𝒱₀ L lv (E m) () (dats m) (reg m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := fun c => ⟨.rfl, .rfl, .rfl, .rfl, .rfl, reg_pre m c, (reg_post m c).trans (by
      unfold E Tₙ
      iintro ⟨Hh, Hb, HO⟩
      isplitr [HO]
      · isplitl [Hh] <;> iassumption
      · iexact HO)⟩)
    (hinit := init m ρ)
    (QY := fun c s => (s.mem ((c.tc : Thread nD τ).loc main_v19) = (argsOf m).out3 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)) ∧ s.sem (cell c kB) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (V6 m (outs m) c) s') $$ [Hh HSI]
      · isplitl [Hh] <;> iassumption
      icases Hr with ⟨%h, HSI⟩
      imodintro
      isplitr
      · ipureintro
        exact ⟨⟨(h (Proc.devRef .tc main_v19) (uc_mem main_v19 (by decide))).trans (V6_out m c),
          (h (Proc.devRef .tc main_arg0) (uc_mem main_arg0 (by decide))).trans (V6_main_arg0 m (outs m) c),
          (h (Proc.devRef .tc main_arg1) (uc_mem main_arg1 (by decide))).trans (V6_main_arg1 m (outs m) c),
          (h (Proc.devRef .tc main_arg2) (uc_mem main_arg2 (by decide))).trans (V6_main_arg2 m (outs m) c),
          (h (Proc.devRef .tc main_arg3) (uc_mem main_arg3 (by decide))).trans (V6_main_arg3 m (outs m) c)⟩, by simpa using hb⟩
      iexact HSI)
    (hQ := fun s h hs => ⟨fun c => (h c).1, sem_eq_zero hs fun c sm hsm => by
        obtain rfl := barrier_eq sm hsm
        exact (h c).2⟩)

end Start

end Cert.Moe

end
-- ==== Proof.Value.lean ====
/-
# What the layer computes, at an index

At the ideal arithmetic a product with a one-hot matrix picks a row, and the two weight products of an
expert are plain sums. So the result of a token is its expert's layer applied to the token's row, wherever
the keys of a device's tokens are distinct.
-/
module

public import proofs.«01_k».proof.Proof.Vals
public import Idealize.ShloMosaic.Lib.Pipeline.ValueKit
public import Idealize.ShloMosaic.Lib.Pointwise

@[expose] public section

set_option maxRecDepth 16384

noncomputable section

namespace Cert.Moe

open Cert.KernelIdeal Cert.KernelIdeal.Gen
open Idealize.ShloMosaic

/-- One expert's layer on one row. -/
def ffn (x : Fin 1024 → EReal) (a : Fin 1024 → Fin 2048 → EReal) (b : Fin 2048 → Fin 1024 → EReal) (d : Fin 1024) : EReal :=
  ∑ f, max (∑ j, x j * a j f) 0 * b f d

/-- A comparison of two words, widened and made a number. -/
theorem bit_val (a b : BitVec 32) :
    (FloatOps.sitofp FTy.f32 (BitVec.setWidth 32 (IntOp.cmpi CmpIPredicate.eq a b)) : Ideal .f32) = if a = b then (1 : EReal) else 0 := by
  by_cases h : a = b
  · rw [if_pos h]
    have e : IntOp.cmpi CmpIPredicate.eq a b = 1#1 := by simp [IntOp.cmpi, h]
    rw [e]
    show (((BitVec.setWidth 32 1#1).toInt : ℝ) : EReal) = 1
    norm_num
  · rw [if_neg h]
    have e : IntOp.cmpi CmpIPredicate.eq a b = 0#1 := by
      show BitVec.ofBool (a == b) = 0#1
      rw [beq_eq_false_iff_ne.mpr h]
      rfl
    rw [e]
    show (((BitVec.setWidth 32 0#1).toInt : ℝ) : EReal) = 0
    norm_num

/-- A row's number equals a key less its bucket's first key exactly when the key is that row's. -/
theorem row_eq_iff (r o K : ℕ) (hr : r < 2304) (ho : o < 2304) (hK : K < 2304) :
    BitVec.ofNat 32 r = IntOp.subi (BitVec.ofNat 32 K) (BitVec.ofNat 32 o) ↔ K = o + r := by
  unfold IntOp.subi
  constructor
  · intro h
    have h' := congrArg BitVec.toNat h
    simp only [BitVec.toNat_ofNat, BitVec.toNat_sub] at h'
    omega
  · rintro rfl
    apply BitVec.eq_of_toNat_eq
    simp only [BitVec.toNat_ofNat, BitVec.toNat_sub]
    omega

/-- A product with the one-hot matrix of the keys, at a row some token has for its key. -/
theorem gat_row (o : ℕ) (ho : o < 2304) (k : Vec Ideal S2048 .i32) (x : Vec Ideal S2048x1024 .f32) (K : Fin 2048 → ℕ)
    (hk : ∀ t, k (ix1 t) = BitVec.ofNat 32 (K t)) (hK : ∀ t, K t < 2304) (hinj : Function.Injective K)
    (t : Fin 2048) (r : Fin 288) (hr : K t = o + r.val) (d : Fin 1024) :
    gatP (BitVec.ofNat 32 o) k x (ix2 r d) = x (ix2 t d) := by
  pointwise [gatP]
  have h : ∀ t' : Fin 2048, (FloatOps.sitofp FTy.f32 (BitVec.setWidth 32 (IntOp.cmpi CmpIPredicate.eq (BitVec.ofNat 32 r.val)
      (IntOp.subi (k (ix1 t')) (BitVec.ofNat 32 o)))) : Ideal .f32) * x (ix2 t' d) = if t' = t then x (ix2 t d) else (0 : EReal) := by
    intro t'
    rw [bit_val, hk]
    by_cases e : t' = t
    · rw [if_pos e, if_pos ((row_eq_iff _ _ _ (by omega) ho (hK t')).2 (e ▸ hr)), e]
      exact one_mul _
    · rw [if_neg e, if_neg (fun q => e (hinj (by rw [(row_eq_iff _ _ _ (by omega) ho (hK t')).1 q, hr])))]
      exact zero_mul _
  rw [Finset.sum_congr rfl fun t' _ => h t']
  simp

/-- The first pass of the combination. -/
theorem com0_row (k : Vec Ideal S256 .i32) (f : Vec Ideal S1152x1024 .bf16) (i : Fin 256) (d : Fin 1024) (K : ℕ) (hK : K < 2304)
    (hk : k (ix1 i) = BitVec.ofNat 32 K) :
    com0P k f (ix2 i d) = if h : K < 1152 then f (ix2 ⟨K, h⟩ d) else (0 : EReal) := by
  pointwise [com0P]
  have h : ∀ r : Fin 1152, (FloatOps.sitofp FTy.f32 (BitVec.setWidth 32 (IntOp.cmpi CmpIPredicate.eq (BitVec.ofNat 32 r.val)
      (IntOp.subi (k (ix1 i)) 0#32))) : Ideal .f32) * f (ix2 r d) = if K = r.val then f (ix2 r d) else (0 : EReal) := by
    intro r
    rw [bit_val, hk]
    by_cases e : K = r.val
    · rw [if_pos e, if_pos ((row_eq_iff _ 0 _ (by omega) (by omega) hK).2 (by omega))]
      exact one_mul _
    · rw [if_neg e, if_neg (fun q => e (by have := (row_eq_iff _ 0 _ (by omega) (by omega) hK).1 q; omega))]
      exact zero_mul _
  rw [Finset.sum_congr rfl fun r _ => h r]
  split
  · next hlt =>
    rw [Finset.sum_eq_single (⟨K, hlt⟩ : Fin 1152)]
    · rw [if_pos rfl]
    · intro r _ hr
      exact if_neg fun e => hr (Fin.ext e.symm)
    · intro q; exact absurd (Finset.mem_univ _) q
  · next hlt =>
    exact Finset.sum_eq_zero fun r _ => if_neg (by have := r.isLt; omega)

/-- A later pass. -/
theorem com_row (o : ℕ) (ho : o < 1729) (k : Vec Ideal S256 .i32) (f : Vec Ideal S576x1024 .bf16) (p : Vec Ideal S256x1024 .f32)
    (i : Fin 256) (d : Fin 1024) (K : ℕ) (hK : K < 2304) (hk : k (ix1 i) = BitVec.ofNat 32 K) :
    comP (BitVec.ofNat 32 o) k f p (ix2 i d)
      = (p (ix2 i d) : EReal) + if h : o ≤ K ∧ K - o < 576 then f (ix2 ⟨K - o, h.2⟩ d) else (0 : EReal) := by
  pointwise [comP]
  have h : ∀ r : Fin 576, (FloatOps.sitofp FTy.f32 (BitVec.setWidth 32 (IntOp.cmpi CmpIPredicate.eq (BitVec.ofNat 32 r.val)
      (IntOp.subi (k (ix1 i)) (BitVec.ofNat 32 o)))) : Ideal .f32) * f (ix2 r d) = if K = o + r.val then f (ix2 r d) else (0 : EReal) := by
    intro r
    rw [bit_val, hk]
    by_cases e : K = o + r.val
    · rw [if_pos e, if_pos ((row_eq_iff _ o _ (by omega) (by omega) hK).2 (by omega))]
      exact one_mul _
    · rw [if_neg e, if_neg (fun q => e ((row_eq_iff _ o _ (by omega) (by omega) hK).1 q))]
      exact zero_mul _
  rw [Finset.sum_congr rfl fun r _ => h r]
  congr 1
  split
  · next hlt =>
    rw [Finset.sum_eq_single (⟨K - o, hlt.2⟩ : Fin 576)]
    · rw [if_pos (by show K = o + (K - o); omega)]
    · intro r _ hr
      exact if_neg fun e => hr (Fin.ext (by show r.val = K - o; omega))
    · intro q; exact absurd (Finset.mem_univ _) q
  · next hlt =>
    exact Finset.sum_eq_zero fun r _ => if_neg (by have := r.isLt; omega)

/-- An expert's layer on the rows of a bucket. -/
theorem ffn_row (q : FVec Ideal S288x1024 .f32) (a : Vec Ideal S1x1024x2048 .f32) (b : Vec Ideal S1x2048x1024 .f32) (r : Fin 288)
    (d : Fin 1024) :
    ffnP q a b (ix2 r d) = ffn (fun j => q (ix2 r j)) (fun j f => a (ix3 0 j f)) (fun f d => b (ix3 0 f d)) d := by
  pointwise [ffnP]
  rfl

/-- The layer on a bucket that was sent: rounding to the narrower type and back is the identity here. -/
theorem rem_row (o : BitVec 32) (k : Vec Ideal S2048 .i32) (x : Vec Ideal S2048x1024 .f32) (a : Vec Ideal S1x1024x2048 .f32)
    (b : Vec Ideal S1x2048x1024 .f32) (r : Fin 288) (d : Fin 1024) :
    remP (sendP o k x) a b (ix2 r d) = ffn (fun j => gatP o k x (ix2 r j)) (fun j f => a (ix3 0 j f)) (fun f d => b (ix3 0 f d)) d := by
  pointwise [remP, sendP, ffnP]
  rfl

namespace Args
variable (g : Args Ideal) (c : Dev nD)

/-- The first weights of the expert with bucket `q` on device `c`: its own for `q < 4`, else its partner's. -/
def wA (q : Fin 8) (j : Fin 1024) (f : Fin 2048) : EReal :=
  if h : q.val < 4 then g.A c (ix3 (⟨q.val, h⟩ : Fin 4) j f) else g.A (pr c) (ix3 (⟨q.val - 4, by omega⟩ : Fin 4) j f)
/-- Its second weights. -/
def wB (q : Fin 8) (f : Fin 2048) (d : Fin 1024) : EReal :=
  if h : q.val < 4 then g.B c (ix3 (⟨q.val, h⟩ : Fin 4) f d) else g.B (pr c) (ix3 (⟨q.val - 4, by omega⟩ : Fin 4) f d)

theorem a_at (e : Fin 4) (j : Fin 1024) (f : Fin 2048) : g.a c e (ix3 0 j f) = g.A c (ix3 e j f) := by
  show g.A c ((AR e).emb (ix3 0 j f)) = _
  congr 1
  funext z
  match z with
  | ⟨0, _⟩ => exact Fin.ext (by show e.val + 1 * 0 = e.val; omega)
  | ⟨1, _⟩ => exact Fin.ext (by show 0 + 1 * j.val = j.val; omega)
  | ⟨2, _⟩ => exact Fin.ext (by show 0 + 1 * f.val = f.val; omega)

theorem b_at (e : Fin 4) (f : Fin 2048) (d : Fin 1024) : g.b c e (ix3 0 f d) = g.B c (ix3 e f d) := by
  show g.B c ((BR e).emb (ix3 0 f d)) = _
  congr 1
  funext z
  match z with
  | ⟨0, _⟩ => exact Fin.ext (by show e.val + 1 * 0 = e.val; omega)
  | ⟨1, _⟩ => exact Fin.ext (by show 0 + 1 * f.val = f.val; omega)
  | ⟨2, _⟩ => exact Fin.ext (by show 0 + 1 * d.val = d.val; omega)

variable (K : Dev nD → Fin 2048 → ℕ) (hk : ∀ c t, g.k c (ix1 t) = BitVec.ofNat 32 (K c t)) (hK : ∀ c t, K c t < 2304)
  (hinj : ∀ c, Function.Injective (K c))
include hk hK hinj

/-- A token's row of the flat buffer: its expert's layer on the token. -/
theorem rows_at (t : Fin 2048) (q : Fin 8) (r : Fin 288) (hq : K c t = 288 * q.val + r.val) (d : Fin 1024) :
    g.rows c q (ix2 r d) = ffn (fun j => g.x c (ix2 t j)) (g.wA c q) (g.wB c q) d := by
  unfold rows
  split
  · next h =>
    unfold own ownP oOwn
    rw [ffn_row]
    have e1 : (fun j => gatP (BitVec.ofNat 32 (288 * q.val)) (g.k c) (g.x c) (ix2 r j)) = fun j => g.x c (ix2 t j) :=
      funext fun j => gat_row _ (by omega) _ _ (K c) (hk c) (hK c) (hinj c) t r hq j
    have e2 : (fun j f => g.a c ⟨q.val, h⟩ (ix3 0 j f)) = g.wA c q := by
      funext j f; rw [a_at]; unfold wA; rw [dif_pos h]
    have e3 : (fun f d => g.b c ⟨q.val, h⟩ (ix3 0 f d)) = g.wB c q := by
      funext f d; rw [b_at]; unfold wB; rw [dif_pos h]
    rw [← e2, ← e3, ← e1]
  · next h =>
    unfold rem snd oFar
    rw [rem_row, pr_pr]
    have e1 : (fun j => gatP (BitVec.ofNat 32 (1152 + 288 * (q.val - 4))) (g.k c) (g.x c) (ix2 r j)) = fun j => g.x c (ix2 t j) :=
      funext fun j => gat_row _ (by omega) _ _ (K c) (hk c) (hK c) (hinj c) t r (by omega) j
    have e2 : (fun j f => g.a (pr c) ⟨q.val - 4, by omega⟩ (ix3 0 j f)) = g.wA c q := by
      funext j f; rw [a_at]; unfold wA; rw [dif_neg h]
    have e3 : (fun f d => g.b (pr c) ⟨q.val - 4, by omega⟩ (ix3 0 f d)) = g.wB c q := by
      funext f d; rw [b_at]; unfold wB; rw [dif_neg h]
    rw [← e2, ← e3, ← e1]

omit hinj in
/-- The three passes together pick the row of the token's key. -/
theorem out3_row (t : Fin 2048) (d : Fin 1024) : g.out3 c (ix2 t d) = g.flatC c (ix2 ⟨K c t, hK c t⟩ d) := by
  have ht := t.isLt
  have hKt := hK c t
  let j : Fin 8 := ⟨t.val / 256, by omega⟩
  let i : Fin 256 := ⟨t.val % 256, by omega⟩
  have e0 : g.out3 c (ix2 t d) = g.o3 c j (ix2 i d) := by
    unfold out3
    exact rowsOf_apply _ _ j _ _ (by show t.val = 256 * (t.val / 256) + t.val % 256; omega) rfl
  have hkc : g.kc c j (ix1 i) = BitVec.ofNat 32 (K c t) := by
    rw [← hk c t]
    show g.k c ((keyR j).emb (ix1 i)) = _
    congr 1
    funext z
    match z with
    | ⟨0, _⟩ => exact Fin.ext (by show 256 * (t.val / 256) + 1 * (t.val % 256) = t.val; omega)
  have hlow : ∀ h : K c t < 1152, g.low c (ix2 ⟨K c t, h⟩ d) = g.flatC c (ix2 ⟨K c t, hK c t⟩ d) := fun h => by
    show g.flatC c (lowR.emb (ix2 ⟨K c t, h⟩ d)) = _
    congr 1
    funext z
    match z with
    | ⟨0, _⟩ => exact Fin.ext (by show 0 + 1 * K c t = K c t; omega)
    | ⟨1, _⟩ => exact Fin.ext (by show 0 + 1 * d.val = d.val; omega)
  have hmid : ∀ h : 1152 ≤ K c t ∧ K c t - 1152 < 576, g.mid c (ix2 ⟨K c t - 1152, h.2⟩ d) = g.flatC c (ix2 ⟨K c t, hK c t⟩ d) := fun h => by
    show g.flatC c (midR.emb (ix2 ⟨K c t - 1152, h.2⟩ d)) = _
    congr 1
    funext z
    match z with
    | ⟨0, _⟩ => exact Fin.ext (by show 1152 + 1 * (K c t - 1152) = K c t; omega)
    | ⟨1, _⟩ => exact Fin.ext (by show 0 + 1 * d.val = d.val; omega)
  have htop : ∀ h : 1728 ≤ K c t ∧ K c t - 1728 < 576, g.top c (ix2 ⟨K c t - 1728, h.2⟩ d) = g.flatC c (ix2 ⟨K c t, hK c t⟩ d) := fun h => by
    show g.flatC c (topR.emb (ix2 ⟨K c t - 1728, h.2⟩ d)) = _
    congr 1
    funext z
    match z with
    | ⟨0, _⟩ => exact Fin.ext (by show 1728 + 1 * (K c t - 1728) = K c t; omega)
    | ⟨1, _⟩ => exact Fin.ext (by show 0 + 1 * d.val = d.val; omega)
  rw [e0]
  unfold o3
  rw [com_row 1728 (by omega) _ _ _ i d (K c t) hKt hkc]
  unfold o2
  rw [com_row 1152 (by omega) _ _ _ i d (K c t) hKt hkc]
  unfold o1
  rw [com0_row _ _ i d (K c t) hKt hkc]
  by_cases h1 : K c t < 1152
  · rw [dif_pos h1, dif_neg (by omega), dif_neg (by omega), hlow h1]
    exact (add_zero _).trans (add_zero _)
  · by_cases h2 : K c t < 1728
    · rw [dif_neg h1, dif_pos (by omega), dif_neg (by omega), hmid (by omega)]
      exact (add_zero _).trans (zero_add _)
    · rw [dif_neg h1, dif_neg (by omega), dif_pos (by omega), htop (by omega)]
      exact (congrArg (· + _) (add_zero (0 : EReal))).trans (zero_add _)

/-- The result at a token: its expert's layer on the token. -/
theorem out3_at (t : Fin 2048) (q : Fin 8) (r : Fin 288) (hq : K c t = 288 * q.val + r.val) (d : Fin 1024) :
    g.out3 c (ix2 t d) = ffn (fun j => g.x c (ix2 t j)) (g.wA c q) (g.wB c q) d := by
  rw [out3_row g c K hk hK t d, ← rows_at g c K hk hK hinj t q r hq d]
  unfold flatC
  exact rowsOf_apply _ _ q _ _ (by show K c t = 288 * q.val + r.val; exact hq) rfl

end Args

end Cert.Moe

end
-- ==== Proof.Keys.lean ====
/-
# The keys

A device numbers its tokens' experts from its own half on, counts, for each token, the tokens before it with
the same expert, and gives the token the key `288 * expert + count`. Where no expert has more than 288 of a
device's tokens the keys are distinct and the key's bucket is the expert's.
-/
module

public import proofs.«01_k».proof.Proof.Region
public import proofs.«01_k».proof.Proof.Value
public import Idealize.ShloMosaic.Lib.StableHlo.ReadAt
public import Idealize.ShloMosaic.Lib.Tactic.WordOmega
public import Idealize.ShloMosaic.Lib.Routing.OpsOne
public import Idealize.ShloMosaic.Lib.StableHlo.Predicate

@[expose] public section

set_option maxRecDepth 16384

noncomputable section

namespace Cert.Moe

open Cert.KernelIdeal Cert.KernelIdeal.Gen
open Idealize.ShloMosaic
open Idealize.ShloMosaic.TcCoe

/-! ## Numbers and words -/

/-- Expert `E` numbered from the first of device `c`'s. -/
def rel (c : Dev nD) (E : ℕ) : ℕ := (E + 8 - 4 * (c.val / 2)) % 8

theorem rel_lt (c : Dev nD) (E : ℕ) : rel c E < 8 := Nat.mod_lt _ (by decide)

theorem rel_inj (c : Dev nD) (E E' : ℕ) (h : E < 8) (h' : E' < 8) : rel c E = rel c E' ↔ E = E' := by
  have hc : c.val < 4 := c.isLt
  unfold rel
  omega

/-- Which half of the experts a device has, as the host computes it. -/
theorem half_word (c : Dev nD) :
    Host.remui (Host.divui (constantI S_ 32 (Dev.word c)) (constantI S_ 32 2#32)) (constantI S_ 32 2#32) ix0 = BitVec.ofNat 32 (c.val / 2) := by
  revert c; decide

theorem shift_word (c : Dev nD) (E : ℕ) (h : E < 8) :
    IntOp.subi (IntOp.addi (BitVec.ofNat 32 E) 8#32) (IntOp.muli 4#32 (BitVec.ofNat 32 (c.val / 2))) = BitVec.ofNat 32 (E + 8 - 4 * (c.val / 2)) := by
  have hc : c.val < 4 := c.isLt
  unfold IntOp.subi IntOp.addi IntOp.muli
  apply BitVec.eq_of_toNat_eq
  simp only [BitVec.toNat_ofNat, BitVec.toNat_sub, BitVec.toNat_add, BitVec.toNat_mul]
  omega

/-- The remainder of a word by 8 that takes the divisor's sign. -/
def modW (w q : BitVec 32) : BitVec 32 :=
  Scalar.select
    (IntOp.andi
      (IntOp.cmpi CmpIPredicate.ne (IntOp.cmpi CmpIPredicate.slt (IntOp.remsi ArithUnit.host w q) 0#32) (IntOp.cmpi CmpIPredicate.slt q 0#32))
      (IntOp.cmpi CmpIPredicate.ne (IntOp.remsi ArithUnit.host w q) 0#32))
    (IntOp.addi (IntOp.remsi ArithUnit.host w q) q) (IntOp.remsi ArithUnit.host w q)

theorem modW_small : ∀ n : Fin 16, modW (BitVec.ofNat 32 n.val) 8#32 = BitVec.ofNat 32 (n.val % 8) := by decide

variable {F : FTy → Type} [FloatOps F]

/-! ## The host's stretches, at an index -/

theorem shifted_at (c : Dev nD) (V : Valuation τ sig (Elt F)) (t : Fin 2048) (E : ℕ) (h : E < 8)
    (hV : V main_arg1 (ix1 t) = BitVec.ofNat 32 E) :
    StableHlo.after (hostOps0 c) V main_v9 (ix1 t) = BitVec.ofNat 32 (E + 8 - 4 * (c.val / 2)) := by
  after_reads_at
  rw [id_eq, half_word, hV]
  exact shift_word c E h

theorem divisor_at (c : Dev nD) (V : Valuation τ sig (Elt F)) :
    StableHlo.after (hostOps0 c) V main_c_3 ix0 = (8#32 : BitVec 32) := by
  after_reads_at

theorem mod_at (V : Valuation τ sig (Elt F)) (t : Fin 2048) (n : ℕ) (hn : n < 16)
    (h9 : V main_v9 (ix1 t) = BitVec.ofNat 32 n) (h3 : V main_c_3 ix0 = (8#32 : BitVec 32)) :
    StableHlo.after hostOps0_1 V main_v10 (ix1 t) = BitVec.ofNat 32 (n % 8) := by
  after_reads_at
  rw [id_eq, h9, h3]
  have e : Scalar.select (IntOp.cmpi CmpIPredicate.eq (8#32 : BitVec 32) 0#32) (1#32 : BitVec 32) 8#32 = 8#32 := by decide
  rw [e]
  exact modW_small ⟨n, hn⟩

/-- The number of a truth value. -/
abbrev one (p : Prop) [Decidable p] : ℕ := if p then 1 else 0

theorem onehot_at (V : Valuation τ sig (Elt F)) (t : Fin 2048) (e : Fin 8) (n : ℕ) (hn : n < 8)
    (h : V main_v10 (ix1 t) = BitVec.ofNat 32 n) :
    StableHlo.after hostOps0_2 V main_v11 (ix2 t e) = BitVec.ofNat 32 (one (n = e.val)) := by
  after_reads_at
  rw [h]
  revert e n
  have : ∀ (n e : Fin 8), BitVec.setWidth 32 (IntOp.cmpi CmpIPredicate.eq (BitVec.ofNat 32 n.val) (BitVec.ofNat 32 e.val))
      = BitVec.ofNat 32 (one (n.val = e.val)) := by decide
  exact fun e n hn _ => this ⟨n, hn⟩ e

/-- How many tokens up to `t` have expert `e`. -/
def upto (n : Fin 2048 → ℕ) (t : Fin 2048) (e : ℕ) : ℕ := (Finset.univ.filter fun t' => t' ≤ t ∧ n t' = e).card

theorem prefix_sum (x : Fin 2048 → BitVec 32) (n : Fin 2048 → ℕ) (t : Fin 2048) (e : ℕ) (h : ∀ t', x t' = BitVec.ofNat 32 (one (n t' = e))) :
    (∑ t', if t' ≤ t then x t' else 0) = BitVec.ofNat 32 (upto n t e) := by
  have h' : ∀ t' : Fin 2048, (if t' ≤ t then x t' else 0) = (if t' ≤ t ∧ n t' = e then (1 : BitVec 32) else 0) := by
    intro t'
    rw [h t']
    by_cases h1 : t' ≤ t <;> by_cases h2 : n t' = e <;> simp [h1, h2]
  rw [Finset.sum_congr rfl fun t' _ => h' t', Finset.sum_boole]
  rfl

theorem running_at (V : Valuation τ sig (Elt F)) (t : Fin 2048) (e : Fin 8) (n : Fin 2048 → ℕ)
    (h : ∀ t', V main_v11 (ix2 t' e) = BitVec.ofNat 32 (one (n t' = e.val))) :
    StableHlo.after hostOps0_3 V main_v12 (ix2 t e) = BitVec.ofNat 32 (upto n t e.val) := by
  after_reads_at
  have h1 := Routing.cumsum_rows_sum (A := 2048) (Am1 := 2047) (N := 8) rfl (V main_v11)
    (broadcastInDim S_ ![] bcast_S_S_ (constantI S_ 32 0#32)) rfl reduceWindows_S2048x8_S2048x8_w2048s1p2047_0_w1s1p0_0 h_S_ t e
  have h2 := prefix_sum (fun t' => V main_v11 (ix2 t' e)) n t e.val h
  exact h1.trans h2

theorem key_at (V : Valuation τ sig (Elt F)) (t : Fin 2048) (n : Fin 2048 → ℕ) (hn : n t < 8)
    (h10 : V main_v10 (ix1 t) = BitVec.ofNat 32 (n t))
    (h11 : ∀ e : Fin 8, V main_v11 (ix2 t e) = BitVec.ofNat 32 (one (n t = e.val)))
    (h12 : ∀ e : Fin 8, V main_v12 (ix2 t e) = BitVec.ofNat 32 (upto n t e.val)) :
    StableHlo.after hostOps0_4 V main_v18 (ix1 t) = BitVec.ofNat 32 (288 * n t + (upto n t (n t) - 1)) := by
  after_reads_at
  have hpos : 0 < upto n t (n t) := Finset.card_pos.2 ⟨t, Finset.mem_filter.2 ⟨Finset.mem_univ _, le_refl _, rfl⟩⟩
  have hle : upto n t (n t) ≤ 2048 := (Finset.card_le_univ _).trans (by simp)
  have hterm : ∀ e : Fin 8, IntOp.muli (IntOp.subi (V main_v12 (ix2 t e)) (V main_v11 (ix2 t e))) (V main_v11 (ix2 t e))
      = if e = ⟨n t, hn⟩ then BitVec.ofNat 32 (upto n t (n t) - 1) else 0 := by
    intro e
    rw [h11, h12]
    by_cases q : e = ⟨n t, hn⟩
    · subst q
      have o : one (n t = ((⟨n t, hn⟩ : Fin 8)).val) = 1 := if_pos rfl
      rw [if_pos rfl, o]
      unfold IntOp.muli IntOp.subi
      apply BitVec.eq_of_toNat_eq
      simp only [BitVec.toNat_ofNat, BitVec.toNat_sub, BitVec.toNat_mul]
      omega
    · have o : one (n t = e.val) = 0 := if_neg (fun w : n t = e.val => q (Fin.ext w.symm))
      rw [if_neg q, o]
      unfold IntOp.muli
      exact BitVec.mul_zero
  have hsum : Finset.fold IntOp.addi (0#32 : BitVec 32)
      (fun e : Fin 8 => IntOp.muli (IntOp.subi (V main_v12 (ix2 t e)) (V main_v11 (ix2 t e))) (V main_v11 (ix2 t e))) Finset.univ
      = BitVec.ofNat 32 (upto n t (n t) - 1) := by
    rw [funext hterm]
    refine (Finset.sum_eq_fold (s := Finset.univ) (f := fun e : Fin 8 => if e = ⟨n t, hn⟩ then BitVec.ofNat 32 (upto n t (n t) - 1) else 0)).symm.trans ?_
    exact (Finset.sum_ite_eq' Finset.univ (⟨n t, hn⟩ : Fin 8) _).trans (if_pos (Finset.mem_univ _))
  refine (congrArg (IntOp.addi _) hsum).trans ?_
  rw [h10]
  unfold IntOp.addi IntOp.muli
  apply BitVec.eq_of_toNat_eq
  simp only [BitVec.toNat_ofNat, BitVec.toNat_add, BitVec.toNat_mul]
  omega

/-! ## The keys of a device -/

/-- The key of token `t` where the tokens' experts are `n`. -/
def key (n : Fin 2048 → ℕ) (t : Fin 2048) : ℕ := 288 * n t + (upto n t (n t) - 1)

section
variable (m : (l : Loc nD τ sig) → Buf (Elt F) l) (c : Dev nD) (E : Fin 2048 → ℕ) (hE : ∀ t, E t < 8)
  (hm : ∀ t, m ((c : Thread nD τ).loc main_arg1) (ix1 t) = BitVec.ofNat 32 (E t))
include hE hm

theorem keys_at (t : Fin 2048) : (argsOf m).k c (ix1 t) = BitVec.ofNat 32 (key (fun t => rel c (E t)) t) := by
  have hc : c.val < 4 := c.isLt
  have h1 : ∀ t, V1 m c main_v9 (ix1 t) = BitVec.ofNat 32 (E t + 8 - 4 * (c.val / 2)) := fun t =>
    shifted_at c _ t (E t) (hE t) (hm t)
  have h2 : ∀ t, V2 m c main_v10 (ix1 t) = BitVec.ofNat 32 (rel c (E t)) := fun t =>
    mod_at _ t _ (by have := hE t; omega) (h1 t) (divisor_at c _)
  have h3 : ∀ t (e : Fin 8), V3 m c main_v11 (ix2 t e) = BitVec.ofNat 32 (one (rel c (E t) = e.val)) := fun t e =>
    onehot_at _ t e _ (rel_lt _ _) (h2 t)
  have h4 : ∀ t (e : Fin 8), V4 m c main_v12 (ix2 t e) = BitVec.ofNat 32 (upto (fun t => rel c (E t)) t e.val) := fun t e =>
    running_at _ t e (fun t => rel c (E t)) (fun t' => h3 t' e)
  have e10 : V4 m c main_v10 = V2 m c main_v10 := (V4_of m c main_v10 (by decide)).trans (V3_of m c main_v10 (by decide))
  have e11 : V4 m c main_v11 = V3 m c main_v11 := V4_of m c main_v11 (by decide)
  have h5 := key_at (V4 m c) t (fun t => rel c (E t)) (rel_lt _ _) ((congrFun e10 _).trans (h2 t)) (fun e => (congrFun e11 _).trans (h3 t e)) (h4 t)
  exact h5

end

section
variable (n : Fin 2048 → ℕ) (hn : ∀ t, n t < 8) (hcount : ∀ e, (Finset.univ.filter fun t => n t = e).card ≤ 288)

theorem upto_pos (t : Fin 2048) : 0 < upto n t (n t) :=
  Finset.card_pos.2 ⟨t, Finset.mem_filter.2 ⟨Finset.mem_univ _, le_refl _, rfl⟩⟩

include hcount in
theorem upto_le (t : Fin 2048) (e : ℕ) : upto n t e ≤ 288 :=
  (Finset.card_le_card fun t' h => Finset.mem_filter.2 ⟨Finset.mem_univ _, (Finset.mem_filter.1 h).2.2⟩).trans (hcount e)

theorem upto_lt (t t' : Fin 2048) (h : t < t') (e : n t = n t') : upto n t (n t) < upto n t' (n t') := by
  refine Finset.card_lt_card ⟨fun q hq => ?_, fun hs => ?_⟩
  · have := (Finset.mem_filter.1 hq).2
    exact Finset.mem_filter.2 ⟨Finset.mem_univ _, this.1.trans h.le, this.2.trans e⟩
  · have := hs (Finset.mem_filter.2 ⟨Finset.mem_univ t', le_refl _, rfl⟩)
    exact absurd (Finset.mem_filter.1 this).2.1 (not_le.2 h)

include hn hcount

theorem key_lt (t : Fin 2048) : key n t < 2304 := by
  have h1 := upto_le n hcount t (n t)
  have h2 := upto_pos n t
  have h3 := hn t
  unfold key
  omega

omit hn in
theorem key_inj : Function.Injective (key n) := by
  intro t t' h
  have h1 := upto_le n hcount t (n t)
  have h2 := upto_pos n t
  have h3 := upto_le n hcount t' (n t')
  have h4 := upto_pos n t'
  unfold key at h
  have e : n t = n t' := by omega
  have e' : upto n t (n t) = upto n t' (n t') := by omega
  rcases lt_trichotomy t t' with q | q | q
  · exact absurd (upto_lt n t t' q e) (by omega)
  · exact q
  · exact absurd (upto_lt n t' t q e.symm) (by omega)

end

end Cert.Moe

end
-- ==== Proof.Routed.lean ====
/-
# The precondition

What the precondition says of a device's assignments: every one names one of the eight experts, and no
expert has more than 288 of the device's tokens.
-/
module

public import proofs.«01_k».proof.Pre_routed_KernelIdeal
public import proofs.«01_k».proof.Pre_routed_ReferenceIdeal
public import Idealize.ShloMosaic.Lib.Pipeline.ValueKit
public import Idealize.ShloMosaic.Lib.Pointwise
public import Idealize.ShloMosaic.Lib.Tactic.WordOmega
public import Idealize.ShloMosaic.Lib.IndicatorCount
public import Idealize.ShloMosaic.Lib.StableHlo.Predicate

@[expose] public section

set_option maxRecDepth 16384

noncomputable section

namespace Cert.Moe

open Idealize.ShloMosaic

theorem routed_kernel : Cert.Pre_routed_KernelIdeal.Facts where
  bcast_S2048_S2048x1_0 := by decide
  bcast_S8_S1x8_1 := by decide
  bcast_S2048x1_S2048x8_0_1 := by decide
  bcast_S1x8_S2048x8_0_1 := by decide
  natLt_1_32 := by decide
  reducesTo_S2048x8_S8_d0 := by decide
  h_S_ := by decide
  bcast_S_S2048 := by decide
  bcast_S_S8 := by decide

theorem routed_reference : Cert.Pre_routed_ReferenceIdeal.Facts where
  bcast_S4096_S4096x1_0 := by decide
  bcast_S8_S1x8_1 := by decide
  bcast_S4096x1_S4096x8_0_1 := by decide
  bcast_S1x8_S4096x8_0_1 := by decide
  natLt_1_32 := by decide
  reducesTo_S4096x8_S8_d0 := by decide
  h_S_ := by decide
  bcast_S_S4096 := by decide
  bcast_S_S8 := by decide

section
variable [Cert.Pre_routed_KernelIdeal.Facts]

open Cert.Pre_routed_KernelIdeal in
/-- The precondition's array at a token and an expert. -/
theorem routed_at (x : FVec Ideal S2048x1024 .f32) (a : IVec S2048 32) (A : FVec Ideal S4x1024x2048 .f32) (B : FVec Ideal S4x2048x1024 .f32)
    (t : Fin 2048) (e : Fin 8) :
    fn x a A B (ix2 t e) = IntOp.andi
      (IntOp.andi (IntOp.cmpi CmpIPredicate.sge (a (ix1 t)) 0#32) (IntOp.cmpi CmpIPredicate.slt (a (ix1 t)) 8#32))
      (IntOp.cmpi CmpIPredicate.sle
        (Finset.fold IntOp.addi (0#32)
          (fun t' => BitVec.setWidth 32 (IntOp.cmpi CmpIPredicate.eq (a (ix1 t')) (BitVec.ofNat 32 e.val))) Finset.univ)
        288#32) := by
  pointwise [fn]

/-- A word that is not negative and below 8, signed, is one of the first eight. -/
theorem small_word (w : BitVec 32) (h : IntOp.andi (IntOp.cmpi CmpIPredicate.sge w 0#32) (IntOp.cmpi CmpIPredicate.slt w 8#32) = 1#1) :
    w.toNat < 8 := by
  word_omega

theorem and_ones (p q : BitVec 1) (h : IntOp.andi p q = 1#1) : p = 1#1 ∧ q = 1#1 := by
  revert p q; decide

open Cert.Pre_routed_KernelIdeal in
theorem routed_facts (x : FVec Ideal S2048x1024 .f32) (a : IVec S2048 32) (A : FVec Ideal S4x1024x2048 .f32) (B : FVec Ideal S4x2048x1024 .f32)
    (h : fn x a A B = fun _ => 1#1) :
    (∀ t, (a (ix1 t)).toNat < 8) ∧ ∀ e, (Finset.univ.filter fun t : Fin 2048 => (a (ix1 t)).toNat = e).card ≤ 288 := by
  have h1 : ∀ t e, _ := fun t e => and_ones _ _ ((routed_at x a A B t e).symm.trans (congrFun h _))
  have hs : ∀ t, (a (ix1 t)).toNat < 8 := fun t => small_word _ (h1 t 0).1
  refine ⟨hs, fun e => ?_⟩
  by_cases he : e < 8
  · have h2 := (h1 0 ⟨e, he⟩).2
    rw [IndicatorCount.fold_addi_setWidth_eq_card] at h2
    have hset : (Finset.univ.filter fun t : Fin 2048 => IntOp.cmpi CmpIPredicate.eq (a (ix1 t)) (BitVec.ofNat 32 e) = 1#1)
        = Finset.univ.filter fun t : Fin 2048 => (a (ix1 t)).toNat = e := by
      refine Finset.filter_congr fun t _ => ?_
      rw [StableHlo.Predicate.cmpi_eq_iff]
      constructor
      · intro q; rw [q, BitVec.toNat_ofNat]; omega
      · intro q; apply BitVec.eq_of_toNat_eq; rw [q, BitVec.toNat_ofNat]; omega
    have h3 := h2
    rw [show (Finset.univ.filter fun t : Fin 2048 => IntOp.cmpi CmpIPredicate.eq (a (ix1 t)) (BitVec.ofNat 32 ((⟨e, he⟩ : Fin 8)).val) = 1#1)
        = Finset.univ.filter fun t : Fin 2048 => (a (ix1 t)).toNat = e from hset] at h3
    have hle : (Finset.univ.filter fun t : Fin 2048 => (a (ix1 t)).toNat = e).card ≤ 2048 := (Finset.card_le_univ _).trans (by simp)
    exact (StableHlo.Predicate.sle_ofNat_iff _ 288 (by omega) (by omega)).1 h3
  · have : (Finset.univ.filter fun t : Fin 2048 => (a (ix1 t)).toNat = e) = ∅ :=
      Finset.filter_eq_empty_iff.2 fun t _ q => he (q ▸ hs t)
    rw [this]
    simp

end

end Cert.Moe

end
-- ==== Proof.Ref.lean ====
/-
# The reference, at an index

The reference applies every expert to every token and keeps, for each token, its own expert's row.
-/
module

public import proofs.«01_k».proof.Proof.Value
public import proofs.«01_k».proof.Proof.Gen.ReferenceIdeal.Run
public import Idealize.ShloMosaic.Lib.StableHlo.Predicate
public import Idealize.ShloMosaic.Lib.Layout

@[expose] public section

set_option maxRecDepth 16384

noncomputable section

namespace Cert.Moe

open Cert.ReferenceIdeal Cert.ReferenceIdeal.Gen
open Idealize.ShloMosaic
open Idealize.ShloMosaic.TcCoe

/-- The chain of choices, at a token whose expert is `e`. -/
theorem pick (e : Fin 8) (v : Fin 8 → EReal) :
    Scalar.select (IntOp.cmpi CmpIPredicate.eq (BitVec.ofNat 32 e.val) 7#32) (v 7)
      (Scalar.select (IntOp.cmpi CmpIPredicate.eq (BitVec.ofNat 32 e.val) 6#32) (v 6)
        (Scalar.select (IntOp.cmpi CmpIPredicate.eq (BitVec.ofNat 32 e.val) 5#32) (v 5)
          (Scalar.select (IntOp.cmpi CmpIPredicate.eq (BitVec.ofNat 32 e.val) 4#32) (v 4)
            (Scalar.select (IntOp.cmpi CmpIPredicate.eq (BitVec.ofNat 32 e.val) 3#32) (v 3)
              (Scalar.select (IntOp.cmpi CmpIPredicate.eq (BitVec.ofNat 32 e.val) 2#32) (v 2)
                (Scalar.select (IntOp.cmpi CmpIPredicate.eq (BitVec.ofNat 32 e.val) 1#32) (v 1)
                  (Scalar.select (IntOp.cmpi CmpIPredicate.eq (BitVec.ofNat 32 e.val) 0#32) (v 0) 0))))))) = v e := by
  fin_cases e <;> rfl

theorem ref_at (m : (l : Loc nD τ sig) → Buf (Elt Ideal) l) (c : Dev nD) (t : Fin 4096) (d : Fin 1024) (e : Fin 8)
    (h : m ((c : Thread nD τ).loc main_arg1) (ix1 t) = BitVec.ofNat 32 e.val) :
    Cert.ReferenceIdeal.Value.res_main_v96 m c (ix2 t d)
      = ffn (fun j => m ((c : Thread nD τ).loc main_arg0) (ix2 t j)) (fun j f => m ((c : Thread nD τ).loc main_arg2) (ix3 e j f))
          (fun f d => m ((c : Thread nD τ).loc main_arg3) (ix3 e f d)) d := by
  pointwise [Cert.ReferenceIdeal.Value.res_main_v96]
  rw [h]
  exact pick e fun e => ffn (fun j => m ((c : Thread nD τ).loc main_arg0) (ix2 t j)) (fun j f => m ((c : Thread nD τ).loc main_arg2) (ix3 e j f))
    (fun f d => m ((c : Thread nD τ).loc main_arg3) (ix3 e f d)) d

end Cert.Moe

namespace Cert.Moe

open Idealize.ShloMosaic

/-! ## A device's block, at an index

The arrays are cut along their first dimension by the mesh's first axis. -/

section
variable {α : Type} (c : Fin 4)

theorem part1_at (v : (⟨1, ![4096]⟩ : Shape).Idx → α) (t : Fin 2048) (T : Fin 4096) (h : T.val = 2048 * (c.val / 2) + t.val) :
    Layout.blockN ⟨1, ![2048]⟩ ⟨1, ![4096]⟩ (Layout.meshBlock [2, 2] ![[0]] c) v (by decide) (ix1 t) = v (ix1 T) := by
  rw [Layout.blockN_apply]
  congr 1
  funext z
  apply Fin.ext
  rw [Layout.TilesN.idx_val]
  have hc : ((Layout.meshBlock [2, 2] ![[0]] c) (0 : Fin 1)).val = c.val / 2 := (show ∀ c : Fin 4, ((Layout.meshBlock [2, 2] ![[0]] c) (0 : Fin 1)).val = c.val / 2 by decide) c
  match z with
  | ⟨0, _⟩ =>
    show ((Layout.meshBlock [2, 2] ![[0]] c) (0 : Fin 1)).val * 2048 + t.val = T.val
    rw [hc]; omega

theorem part2_at (v : (⟨2, ![4096, 1024]⟩ : Shape).Idx → α) (t : Fin 2048) (d : Fin 1024) (T : Fin 4096)
    (h : T.val = 2048 * (c.val / 2) + t.val) :
    Layout.blockN ⟨2, ![2048, 1024]⟩ ⟨2, ![4096, 1024]⟩ (Layout.meshBlock [2, 2] ![[0], []] c) v (by decide) (ix2 t d) = v (ix2 T d) := by
  rw [Layout.blockN_apply]
  congr 1
  funext z
  apply Fin.ext
  rw [Layout.TilesN.idx_val]
  have hc : ((Layout.meshBlock [2, 2] ![[0], []] c) (0 : Fin 2)).val = c.val / 2 := (show ∀ c : Fin 4, ((Layout.meshBlock [2, 2] ![[0], []] c) (0 : Fin 2)).val = c.val / 2 by decide) c
  have h1 : ((Layout.meshBlock [2, 2] ![[0], []] c) (1 : Fin 2)).val = 0 := (show ∀ c : Fin 4, ((Layout.meshBlock [2, 2] ![[0], []] c) (1 : Fin 2)).val = 0 by decide) c
  match z with
  | ⟨0, _⟩ =>
    show ((Layout.meshBlock [2, 2] ![[0], []] c) (0 : Fin 2)).val * 2048 + t.val = T.val
    rw [hc]; omega
  | ⟨1, _⟩ =>
    show ((Layout.meshBlock [2, 2] ![[0], []] c) (1 : Fin 2)).val * 1024 + d.val = d.val
    rw [h1]; omega

theorem part3_at {a b : ℕ} (v : (⟨3, ![8, a, b]⟩ : Shape).Idx → α) (hT : Layout.TilesN ⟨3, ![4, a, b]⟩ ⟨3, ![8, a, b]⟩ _) (e : Fin 4) (j : Fin a) (f : Fin b) (E : Fin 8)
    (h : E.val = 4 * (c.val / 2) + e.val) :
    Layout.blockN ⟨3, ![4, a, b]⟩ ⟨3, ![8, a, b]⟩ (Layout.meshBlock [2, 2] ![[0], [], []] c) v hT (ix3 e j f) = v (ix3 E j f) := by
  rw [Layout.blockN_apply]
  congr 1
  funext z
  apply Fin.ext
  rw [Layout.TilesN.idx_val]
  have hc : ((Layout.meshBlock [2, 2] ![[0], [], []] c) (0 : Fin 3)).val = c.val / 2 := (show ∀ c : Fin 4, ((Layout.meshBlock [2, 2] ![[0], [], []] c) (0 : Fin 3)).val = c.val / 2 by decide) c
  have h1 : ((Layout.meshBlock [2, 2] ![[0], [], []] c) (1 : Fin 3)).val = 0 := (show ∀ c : Fin 4, ((Layout.meshBlock [2, 2] ![[0], [], []] c) (1 : Fin 3)).val = 0 by decide) c
  have h2 : ((Layout.meshBlock [2, 2] ![[0], [], []] c) (2 : Fin 3)).val = 0 := (show ∀ c : Fin 4, ((Layout.meshBlock [2, 2] ![[0], [], []] c) (2 : Fin 3)).val = 0 by decide) c
  match z with
  | ⟨0, _⟩ =>
    show ((Layout.meshBlock [2, 2] ![[0], [], []] c) (0 : Fin 3)).val * 4 + e.val = E.val
    rw [hc]; omega
  | ⟨1, _⟩ =>
    show ((Layout.meshBlock [2, 2] ![[0], [], []] c) (1 : Fin 3)).val * a + j.val = j.val
    rw [h1]; omega
  | ⟨2, _⟩ =>
    show ((Layout.meshBlock [2, 2] ![[0], [], []] c) (2 : Fin 3)).val * b + f.val = f.val
    rw [h2]; omega

end

end Cert.Moe

end
-- ==== Proof.Meet.lean ====
/-
# The layer and the reference meet

Where every device's assignments meet the precondition, each device's result is its part of the reference's.
-/
module

public import proofs.«01_k».proof.Proof.Keys
public import proofs.«01_k».proof.Proof.Routed
public import proofs.«01_k».proof.Proof.Ref

@[expose] public section

set_option maxRecDepth 16384

noncomputable section

namespace Cert.Moe

open Cert.KernelIdeal Cert.KernelIdeal.Gen
open Idealize.ShloMosaic
open Idealize.ShloMosaic.TcCoe

/-- The expert with bucket `rel c E` on device `c`, numbered on the device that has it. -/
theorem rel_near (c : Dev nD) (E : ℕ) (hE : E < 8) (h : rel c E < 4) : E = 4 * (c.val / 2) + rel c E := by
  have hc : c.val < 4 := c.isLt
  unfold rel at *
  omega

theorem rel_far (c : Dev nD) (E : ℕ) (hE : E < 8) (h : ¬ rel c E < 4) : E = 4 * ((pr c).val / 2) + (rel c E - 4) := by
  have hc : c.val < 4 := c.isLt
  have hp : (pr c).val = (c.val + 2) % 4 := rfl
  unfold rel at *
  omega

section
variable (m : (l : Loc nD τ sig) → Buf (Elt Ideal) l) (c : Dev nD)

theorem arg_x : (argsOf m).x c = m ((c : Thread nD τ).loc main_arg0) :=
  (V5_of m c main_arg0 (by decide)).trans <| (V4_of m c main_arg0 (by decide)).trans <| (V3_of m c main_arg0 (by decide)).trans <|
    (V2_of m c main_arg0 (by decide)).trans (V1_of m c main_arg0 (by decide))
theorem arg_A : (argsOf m).A c = m ((c : Thread nD τ).loc main_arg2) :=
  (V5_of m c main_arg2 (by decide)).trans <| (V4_of m c main_arg2 (by decide)).trans <| (V3_of m c main_arg2 (by decide)).trans <|
    (V2_of m c main_arg2 (by decide)).trans (V1_of m c main_arg2 (by decide))
theorem arg_B : (argsOf m).B c = m ((c : Thread nD τ).loc main_arg3) :=
  (V5_of m c main_arg3 (by decide)).trans <| (V4_of m c main_arg3 (by decide)).trans <| (V3_of m c main_arg3 (by decide)).trans <|
    (V2_of m c main_arg3 (by decide)).trans (V1_of m c main_arg3 (by decide))

end

section
variable (m : (l : Loc nD τ sig) → Buf (Elt Ideal) l)
  (m' : (l : Loc Cert.ReferenceIdeal.nD Cert.ReferenceIdeal.τ Cert.ReferenceIdeal.sig) → Buf (Elt Ideal) l)

/-- The experts of device `c`'s tokens. -/
def expert (c : Dev nD) (t : Fin 2048) : ℕ := BitVec.toNat (w := 32) (m ((c : Thread nD τ).loc main_arg1) (ix1 t))

variable (hE : ∀ c t, expert m c t < 8) (hcount : ∀ c e, (Finset.univ.filter fun t => expert m c t = e).card ≤ 288)
include hE hcount

omit hcount in
theorem expert_word (c : Dev nD) (t : Fin 2048) : m ((c : Thread nD τ).loc main_arg1) (ix1 t) = BitVec.ofNat 32 (expert m c t) :=
  (BitVec.ofNat_toNat 32 _).symm ▸ (BitVec.setWidth_eq _).symm

theorem rel_count (c : Dev nD) (e : ℕ) : (Finset.univ.filter fun t => rel c (expert m c t) = e).card ≤ 288 := by
  by_cases h : ∃ t, rel c (expert m c t) = e
  · obtain ⟨t, rfl⟩ := h
    refine le_trans (le_of_eq ?_) (hcount c (expert m c t))
    congr 1
    exact Finset.filter_congr fun t' _ => rel_inj c _ _ (hE c t') (hE c t)
  · rw [Finset.filter_eq_empty_iff.2 fun t _ q => h ⟨t, q⟩]
    simp

variable
  (h0 : ∀ (c : Dev nD) (t : Fin 2048) (j : Fin 1024) (T : Fin 4096), T.val = 2048 * (c.val / 2) + t.val →
    m ((c : Thread nD τ).loc main_arg0) (ix2 t j) = m' (((0 : Dev Cert.ReferenceIdeal.nD).tc : Thread Cert.ReferenceIdeal.nD Cert.ReferenceIdeal.τ).loc Cert.ReferenceIdeal.main_arg0) (ix2 T j))
  (h1 : ∀ (c : Dev nD) (t : Fin 2048) (T : Fin 4096), T.val = 2048 * (c.val / 2) + t.val →
    m ((c : Thread nD τ).loc main_arg1) (ix1 t) = m' (((0 : Dev Cert.ReferenceIdeal.nD).tc : Thread Cert.ReferenceIdeal.nD Cert.ReferenceIdeal.τ).loc Cert.ReferenceIdeal.main_arg1) (ix1 T))
  (h2 : ∀ (c : Dev nD) (e : Fin 4) (j : Fin 1024) (f : Fin 2048) (E : Fin 8), E.val = 4 * (c.val / 2) + e.val →
    m ((c : Thread nD τ).loc main_arg2) (ix3 e j f) = m' (((0 : Dev Cert.ReferenceIdeal.nD).tc : Thread Cert.ReferenceIdeal.nD Cert.ReferenceIdeal.τ).loc Cert.ReferenceIdeal.main_arg2) (ix3 E j f))
  (h3 : ∀ (c : Dev nD) (e : Fin 4) (f : Fin 2048) (d : Fin 1024) (E : Fin 8), E.val = 4 * (c.val / 2) + e.val →
    m ((c : Thread nD τ).loc main_arg3) (ix3 e f d) = m' (((0 : Dev Cert.ReferenceIdeal.nD).tc : Thread Cert.ReferenceIdeal.nD Cert.ReferenceIdeal.τ).loc Cert.ReferenceIdeal.main_arg3) (ix3 E f d))
include h0 h1 h2 h3

/-- A device's result at a token is the reference's at that token of the whole. -/
theorem meet_at (c : Dev nD) (t : Fin 2048) (d : Fin 1024) (T : Fin 4096) (hT : T.val = 2048 * (c.val / 2) + t.val) :
    (argsOf m).out3 c (ix2 t d) = Cert.ReferenceIdeal.Value.res_main_v96 m' 0 (ix2 T d) := by
  have hk : ∀ c t, (argsOf m).k c (ix1 t) = BitVec.ofNat 32 (key (fun t => rel c (expert m c t)) t) := fun c t =>
    keys_at m c (expert m c) (hE c) (expert_word m hE c) t
  have hK : ∀ c t, key (fun t => rel c (expert m c t)) t < 2304 := fun c t =>
    key_lt _ (fun t => rel_lt _ _) (rel_count m hE hcount c) t
  have hinj : ∀ c, Function.Injective (key fun t => rel c (expert m c t)) := fun c => key_inj _ (rel_count m hE hcount c)
  have hu1 := upto_le (fun t => rel c (expert m c t)) (rel_count m hE hcount c) t (rel c (expert m c t))
  have hu2 := upto_pos (fun t => rel c (expert m c t)) t
  have hout := (argsOf m).out3_at c (fun c => key fun t => rel c (expert m c t)) hk hK hinj t ⟨rel c (expert m c t), rel_lt _ _⟩
    ⟨upto (fun t => rel c (expert m c t)) t (rel c (expert m c t)) - 1, by omega⟩ rfl d
  have hword : m' (((0 : Dev Cert.ReferenceIdeal.nD).tc : Thread Cert.ReferenceIdeal.nD Cert.ReferenceIdeal.τ).loc Cert.ReferenceIdeal.main_arg1) (ix1 T)
      = BitVec.ofNat 32 ((⟨expert m c t, hE c t⟩ : Fin 8)).val :=
    (h1 c t T hT).symm.trans (expert_word m hE c t)
  have href := ref_at m' 0 T d ⟨expert m c t, hE c t⟩ hword
  rw [hout, href]
  have ex : (fun j => (argsOf m).x c (ix2 t j))
      = fun j => m' (((0 : Dev Cert.ReferenceIdeal.nD).tc : Thread Cert.ReferenceIdeal.nD Cert.ReferenceIdeal.τ).loc Cert.ReferenceIdeal.main_arg0) (ix2 T j) :=
    funext fun j => (congrFun (arg_x m c) (ix2 t j)).trans (h0 c t j T hT)
  have eA : (argsOf m).wA c ⟨rel c (expert m c t), rel_lt _ _⟩
      = fun j f => m' (((0 : Dev Cert.ReferenceIdeal.nD).tc : Thread Cert.ReferenceIdeal.nD Cert.ReferenceIdeal.τ).loc Cert.ReferenceIdeal.main_arg2)
        (ix3 (⟨expert m c t, hE c t⟩ : Fin 8) j f) := by
    funext j f
    unfold Args.wA
    split
    · next h => exact (congrFun (arg_A m c) _).trans (h2 c _ j f _ (rel_near c _ (hE c t) h))
    · next h => exact (congrFun (arg_A m (pr c)) _).trans (h2 (pr c) _ j f _ (rel_far c _ (hE c t) h))
  have eB : (argsOf m).wB c ⟨rel c (expert m c t), rel_lt _ _⟩
      = fun f d => m' (((0 : Dev Cert.ReferenceIdeal.nD).tc : Thread Cert.ReferenceIdeal.nD Cert.ReferenceIdeal.τ).loc Cert.ReferenceIdeal.main_arg3)
        (ix3 (⟨expert m c t, hE c t⟩ : Fin 8) f d) := by
    funext j f
    unfold Args.wB
    split
    · next h => exact (congrFun (arg_B m c) _).trans (h3 c _ j f _ (rel_near c _ (hE c t) h))
    · next h => exact (congrFun (arg_B m (pr c)) _).trans (h3 (pr c) _ j f _ (rel_far c _ (hE c t) h))
  rw [ex, eA, eB]

end

end Cert.Moe

end
-- ==== Proof.lean ====
/- The claims of `proof/Defs.lean`, proved: the runs are `Proof/Launch.lean` (the layer) and the generated run of the
reference, and `Proof/Meet.lean` compares what they compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Meet
public import Idealize.ShloMosaic.Adequacy
public import Idealize.ShloMosaic.Init

@[expose] public section

noncomputable section

namespace Cert.Proof

open Idealize.ShloMosaic Idealize.SL.Sem

/-- The two printings of the layer are one program. -/
theorem body_same : Cert.Kernel.defs₀ (F := Bits) = Cert.KernelIdeal.defs₀ (F := Bits) := by
  unfold Cert.Kernel.defs₀ Cert.KernelIdeal.defs₀
  congr 1
  funext l a
  match l with
  | 0 => rfl
theorem defs_same : Cert.Kernel.defs (F := Bits) = Cert.KernelIdeal.defs (F := Bits) :=
  congrArg (Pipeline.defs (Cert.KernelIdeal.pcfgs (F := Bits))) body_same
theorem main_same : Cert.Kernel.main (F := Bits) = Cert.KernelIdeal.main (F := Bits) :=
  funext fun c => (Cert.Kernel.Gen.main_chain c).trans (Eq.trans rfl (Cert.KernelIdeal.Gen.main_chain (F := Bits) c).symm)

theorem frame_kernel : Cert.quiescent_Kernel := by
  intro m ρ _
  rw [defs_same, main_same]
  exact (θ_run Cert.KernelIdeal.defs _ _).mono (fun _ h => ⟨fun c => (h.1 c).2, h.2⟩) (Cert.Moe.run_main (F := Bits) m ρ)

theorem frame_ideal : Cert.quiescent_KernelIdeal := fun m ρ _ =>
  (θ_run Cert.KernelIdeal.defs _ _).mono (fun _ h => ⟨fun c => (h.1 c).2, h.2⟩) (Cert.Moe.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section
variable [Cert.Pre_routed_KernelIdeal.Facts]

theorem frame_ideal_routed : Cert.quiescent_KernelIdeal_pre_routed_KernelIdeal := fun m ρ _ =>
  (θ_run Cert.KernelIdeal.defs _ _).mono (fun _ h => ⟨fun c => (h.1 c).2, h.2⟩) (Cert.Moe.run_main (F := Ideal) m ρ)

theorem same_values : Cert.algebraic_KernelIdeal_ReferenceIdeal_pre_routed_KernelIdeal := by
  intro m ρ m' ρ' hpre hargs
  have hf := fun c => Cert.Moe.routed_facts _ _ _ _ (hpre c)
  refine ⟨Cert.ReferenceIdeal.Value.res_main_v96 m' 0, ?_, ?_⟩
  · refine (θ_run Cert.KernelIdeal.defs _ _).mono (fun _ h c => ⟨(h.1 c).1.trans ?_, (h.1 c).2⟩) (Cert.Moe.run_main (F := Ideal) m ρ)
    funext i
    obtain ⟨t, d, rfl⟩ : ∃ (t : Fin 2048) (d : Fin 1024), i = ix2 t d := ⟨i 0, i 1, by
      funext z
      match z with
      | ⟨0, _⟩ => rfl
      | ⟨1, _⟩ => rfl⟩
    have hc : c.val < 4 := c.isLt
    have ht := t.isLt
    exact (Cert.Moe.meet_at m m' (fun c => (hf c).1) (fun c => (hf c).2)
      (fun c t j T hT => (congrFun (hargs c).1 (ix2 t j)).trans (Cert.Moe.part2_at c _ t j T hT))
      (fun c t T hT => (congrFun (hargs c).2.1 (ix1 t)).trans (Cert.Moe.part1_at c _ t T hT))
      (fun c e j f E hE => (congrFun (hargs c).2.2.1 (ix3 e j f)).trans (Cert.Moe.part3_at c _ _ e j f E hE))
      (fun c e f d E hE => (congrFun (hargs c).2.2.2 (ix3 e f d)).trans (Cert.Moe.part3_at c _ _ e f d E hE))
      c t d ⟨2048 * (c.val / 2) + t.val, by omega⟩ rfl).trans (Cert.Moe.part2_at c _ t d _ rfl).symm
  · exact (θ_run Cert.ReferenceIdeal.defs _ _).mono (fun _ h => h 0) (Cert.ReferenceIdeal.Value.run (F := Ideal) m' ρ')

end

section
variable [Cert.Pre_routed_ReferenceIdeal.Facts]

theorem frame_reference_routed : Cert.quiescent_ReferenceIdeal_pre_routed_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end

theorem claim : Cert.Claim := ⟨Cert.Kernel.Gen.facts, Cert.KernelIdeal.Gen.facts, Cert.ReferenceIdeal.Gen.facts,
  Cert.Moe.routed_kernel, Cert.Moe.routed_reference,
  frame_kernel, frame_ideal, @frame_ideal_routed Cert.Moe.routed_kernel, frame_reference,
  @frame_reference_routed Cert.Moe.routed_reference, trivial, @same_values Cert.Moe.routed_kernel⟩

end Cert.Proof

end
